-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64_0) = v0 c
          ∧ r.2.mem ((c.tc : Thread Cert.ReferenceIdeal.nD Cert.ReferenceIdeal.τ).loc Cert.ReferenceIdeal.main_v64_1) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v64_2) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x1920 : Shape := ⟨3, ![3, 2048, 1920]⟩
abbrev S3x2048x14208 : Shape := ⟨3, ![3, 2048, 14208]⟩
abbrev S6144x1920 : Shape := ⟨2, ![6144, 1920]⟩
abbrev S6144x14208 : Shape := ⟨2, ![6144, 14208]⟩
abbrev S24x2x1920 : Shape := ⟨3, ![24, 2, 1920]⟩
abbrev S24x1920x256 : Shape := ⟨3, ![24, 1920, 256]⟩
abbrev S256x1920 : Shape := ⟨2, ![256, 1920]⟩
abbrev S1x2x1920 : Shape := ⟨3, ![1, 2, 1920]⟩
abbrev S1x1920x256 : Shape := ⟨3, ![1, 1920, 256]⟩
abbrev S128x1920 : Shape := ⟨2, ![128, 1920]⟩
abbrev S1920 : Shape := ⟨1, ![1920]⟩
abbrev S1x1920 : Shape := ⟨2, ![1, 1920]⟩
abbrev S1x1x1920 : Shape := ⟨3, ![1, 1, 1920]⟩
abbrev S1920x128 : Shape := ⟨2, ![1920, 128]⟩
abbrev S1x1920x128 : Shape := ⟨3, ![1, 1920, 128]⟩
abbrev S1920x14208 : Shape := ⟨2, ![1920, 14208]⟩
abbrev S48x14208 : Shape := ⟨2, ![48, 14208]⟩
abbrev S6144x256 : Shape := ⟨2, ![6144, 256]⟩
abbrev S1920x256 : Shape := ⟨2, ![1920, 256]⟩
abbrev S48x256 : Shape := ⟨2, ![48, 256]⟩
abbrev S128x256 : Shape := ⟨2, ![128, 256]⟩
abbrev S256 : Shape := ⟨1, ![256]⟩
abbrev S1x256 : Shape := ⟨2, ![1, 256]⟩
abbrev S256x256 : Shape := ⟨2, ![256, 256]⟩
abbrev S3x16x1920 : Shape := ⟨3, ![3, 16, 1920]⟩
abbrev S3x16x14208 : Shape := ⟨3, ![3, 16, 14208]⟩

abbrev nBuf : Space → Nat
  | .hbm => 14
  | .vmem => 18
  | .smem => 0
  | _ => 0

abbrev bufTy : (tb : Table) → Fin (tcTables nBuf tb) → BufTy
  | .hbm, ⟨0, _⟩ => ⟨S3x2048x1920, .bf16⟩
  | .hbm, ⟨1, _⟩ => ⟨S3x2048x14208, .bf16⟩
  | .hbm, ⟨2, _⟩ => ⟨S6144x1920, .bf16⟩
  | .hbm, ⟨3, _⟩ => ⟨S6144x14208, .bf16⟩
  | .hbm, ⟨4, _⟩ => ⟨S6144x1920, .fp8e4m3⟩
  | .hbm, ⟨5, _⟩ => ⟨S24x2x1920, .f32⟩
  | .hbm, ⟨6, _⟩ => ⟨S24x1920x256, .bf16⟩
  | .hbm, ⟨7, _⟩ => ⟨S1920x14208, .f32⟩
  | .hbm, ⟨8, _⟩ => ⟨S6144x14208, .fp8e4m3⟩
  | .hbm, ⟨9, _⟩ => ⟨S48x14208, .f32⟩
  | .hbm, ⟨10, _⟩ => ⟨S3x2048x1920, .fp8e4m3⟩
  | .hbm, ⟨11, _⟩ => ⟨S3x16x1920, .f32⟩
  | .hbm, ⟨12, _⟩ => ⟨S3x2048x14208, .fp8e4m3⟩
  | .hbm, ⟨13, _⟩ => ⟨S3x16x14208, .f32⟩
  | .local _ .vmem, ⟨0, _⟩ => ⟨S256x1920, .bf16⟩
  | .local _ .vmem, ⟨1, _⟩ => ⟨S256x1920, .bf16⟩
  | .local _ .vmem, ⟨2, _⟩ => ⟨S256x1920, .fp8e4m3⟩
  | .local _ .vmem, ⟨3, _⟩ => ⟨S256x1920, .fp8e4m3⟩
  | .local _ .vmem, ⟨4, _⟩ => ⟨S1x2x1920, .f32⟩
  | .local _ .vmem, ⟨5, _⟩ => ⟨S1x2x1920, .f32⟩
  | .local _ .vmem, ⟨6, _⟩ => ⟨S1x1920x256, .bf16⟩
  | .local _ .vmem, ⟨7, _⟩ => ⟨S1x1920x256, .bf16⟩
  | .local _ .vmem, ⟨8, _⟩ => ⟨S24x1920x256, .bf16⟩
  | .local _ .vmem, ⟨9, _⟩ => ⟨S6144x256, .bf16⟩
  | .local _ .vmem, ⟨10, _⟩ => ⟨S6144x256, .bf16⟩
  | .local _ .vmem, ⟨11, _⟩ => ⟨S1920x256, .f32⟩
  | .local _ .vmem, ⟨12, _⟩ => ⟨S1920x256, .f32⟩
  | .local _ .vmem, ⟨13, _⟩ => ⟨S6144x256, .fp8e4m3⟩
  | .local _ .vmem, ⟨14, _⟩ => ⟨S6144x256, .fp8e4m3⟩
  | .local _ .vmem, ⟨15, _⟩ => ⟨S48x256, .f32⟩
  | .local _ .vmem, ⟨16, _⟩ => ⟨S48x256, .f32⟩
  | .local _ .vmem, ⟨17, _⟩ => ⟨S6144x256, .bf16⟩
  | _, _ => ⟨S3x2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1920x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![56], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S24x1920x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6144x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1920x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6144x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S48x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S3x2048x1920 : Shape := ⟨3, ![3, 2048, 1920]⟩
abbrev S3x2048x14208 : Shape := ⟨3, ![3, 2048, 14208]⟩
abbrev S3x16x128x1920 : Shape := ⟨4, ![3, 16, 128, 1920]⟩
abbrev S_ : Shape := ⟨0, ![]⟩
abbrev S3x16x1920 : Shape := ⟨3, ![3, 16, 1920]⟩
abbrev S3x16x1x1920 : Shape := ⟨4, ![3, 16, 1, 1920]⟩
abbrev S3x16x128x14208 : Shape := ⟨4, ![3, 16, 128, 14208]⟩
abbrev S3x16x14208 : Shape := ⟨3, ![3, 16, 14208]⟩
abbrev S3x16x1x14208 : Shape := ⟨4, ![3, 16, 1, 14208]⟩
abbrev S1920x14208 : Shape := ⟨2, ![1920, 14208]⟩
abbrev S6144x1920 : Shape := ⟨2, ![6144, 1920]⟩
abbrev S6144x14208 : Shape := ⟨2, ![6144, 14208]⟩

abbrev nBuf : Space → Nat
  | .hbm => 105
  | .vmem => 7
  | .smem => 0
  | _ => 0

abbrev bufTy : (tb : Table) → Fin (tcTables nBuf tb) → BufTy
  | .hbm, ⟨0, _⟩ => ⟨S3x2048x1920, .bf16⟩
  | .hbm, ⟨1, _⟩ => ⟨S3x2048x14208, .bf16⟩
  | .hbm, ⟨2, _⟩ => ⟨S3x2048x1920, .f32⟩
  | .hbm, ⟨3, _⟩ => ⟨S3x16x128x1920, .f32⟩
  | .hbm, ⟨4, _⟩ => ⟨S3x16x128x1920, .f32⟩
  | .hbm, ⟨5, _⟩ => ⟨S_, .f32⟩
  | .hbm, ⟨6, _⟩ => ⟨S3x16x1920, .f32⟩
  | .hbm, ⟨7, _⟩ => ⟨S_, .f32⟩
  | .hbm, ⟨8, _⟩ => ⟨S3x16x1920, .f32⟩
  | .hbm, ⟨9, _⟩ => ⟨S3x16x1920, .f32⟩
  | .hbm, ⟨10, _⟩ => ⟨S3x16x1920, .f32⟩
  | .hbm, ⟨11, _⟩ => ⟨S_, .f32⟩
  | .hbm, ⟨12, _⟩ => ⟨S_, .f32⟩
  | .hbm, ⟨13, _⟩ => ⟨S3x16x1920, .f32⟩
  | .hbm, ⟨14, _⟩ => ⟨S3x16x1920, .f32⟩
  | .hbm, ⟨15, _⟩ => ⟨S3x16x1920, .f32⟩
  | .hbm, ⟨16, _⟩ => ⟨S_, .f32⟩
  | .hbm, ⟨17, _⟩ => ⟨S3x16x1920, .f32⟩
  | .hbm, ⟨18, _⟩ => ⟨S3x16x1920, .f32⟩
  | .hbm, ⟨19, _⟩ => ⟨S_, .f32⟩
  | .hbm, ⟨20, _⟩ => ⟨S3x16x1920, .f32⟩
  | .hbm, ⟨21, _⟩ => ⟨S3x16x1920, .i1⟩
  | .hbm, ⟨22, _⟩ => ⟨S_, .f32⟩
  | .hbm, ⟨23, _⟩ => ⟨S3x16x1920, .f32⟩
  | .hbm, ⟨24, _⟩ => ⟨S3x16x1920, .i1⟩
  | .hbm, ⟨25, _⟩ => ⟨S3x16x1920, .i1⟩
  | .hbm, ⟨26, _⟩ => ⟨S_, .f32⟩
  | .hbm, ⟨27, _⟩ => ⟨S_, .f32⟩
  | .hbm, ⟨28, _⟩ => ⟨S3x16x1920, .f32⟩
  | .hbm, ⟨29, _⟩ => ⟨S3x16x1920, .f32⟩
  | .hbm, ⟨30, _⟩ => ⟨S_, .f32⟩
  | .hbm, ⟨31, _⟩ => ⟨S3x16x1920, .f32⟩
  | .hbm, ⟨32, _⟩ => ⟨S3x16x1920, .f32⟩
  | .hbm, ⟨33, _⟩ => ⟨S3x16x1920, .f32⟩
  | .hbm, ⟨34, _⟩ => ⟨S_, .f32⟩
  | .hbm, ⟨35, _⟩ => ⟨S3x16x1920, .f32⟩
  | .hbm, ⟨36, _⟩ => ⟨S3x16x1920, .f32⟩
  | .hbm, ⟨37, _⟩ => ⟨S3x16x1x1920, .f32⟩
  | .hbm, ⟨38, _⟩ => ⟨S3x16x128x1920, .f32⟩
  | .hbm, ⟨39, _⟩ => ⟨S3x16x128x1920, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S3x16x128x1920, .f32⟩
  | .hbm, ⟨44, _⟩ => ⟨S3x16x128x1920, .f32⟩
  | .hbm, ⟨45, _⟩ => ⟨S_, .f32⟩
  | .hbm, ⟨46, _⟩ => ⟨S3x16x128x1920, .f32⟩
  | .hbm, ⟨47, _⟩ => ⟨S3x16x128x1920, .f32⟩
  | .hbm, ⟨48, _⟩ => ⟨S3x2048x1920, .f32⟩
  | .hbm, ⟨49, _⟩ => ⟨S3x2048x14208, .f32⟩
  | .hbm, ⟨50, _⟩ => ⟨S3x16x128x14208, .f32⟩
  | .hbm, ⟨51, _⟩ => ⟨S3x16x128x14208, .f32⟩
  | .hbm, ⟨52, _⟩ => ⟨S_, .f32⟩
  | .hbm, ⟨53, _⟩ => ⟨S3x16x14208, .f32⟩
  | .hbm, ⟨54, _⟩ => ⟨S_, .f32⟩
  | .hbm, ⟨55, _⟩ => ⟨S3x16x14208, .f32⟩
  | .hbm, ⟨56, _⟩ => ⟨S3x16x14208, .f32⟩
  | .hbm, ⟨57, _⟩ => ⟨S3x16x14208, .f32⟩
  | .hbm, ⟨58, _⟩ => ⟨S_, .f32⟩
  | .hbm, ⟨59, _⟩ => ⟨S_, .f32⟩
  | .hbm, ⟨60, _⟩ => ⟨S3x16x14208, .f32⟩
  | .hbm, ⟨61, _⟩ => ⟨S3x16x14208, .f32⟩
  | .hbm, ⟨62, _⟩ => ⟨S3x16x14208, .f32⟩
  | .hbm, ⟨63, _⟩ => ⟨S_, .f32⟩
  | .hbm, ⟨64, _⟩ => ⟨S3x16x14208, .f32⟩
  | .hbm, ⟨65, _⟩ => ⟨S3x16x14208, .f32⟩
  | .hbm, ⟨66, _⟩ => ⟨S_, .f32⟩
  | .hbm, ⟨67, _⟩ => ⟨S3x16x14208, .f32⟩
  | .hbm, ⟨68, _⟩ => ⟨S3x16x14208, .i1⟩
  | .hbm, ⟨69, _⟩ => ⟨S_, .f32⟩
  | .hbm, ⟨70, _⟩ => ⟨S3x16x14208, .f32⟩
  | .hbm, ⟨71, _⟩ => ⟨S3x16x14208, .i1⟩
  | .hbm, ⟨72, _⟩ => ⟨S3x16x14208, .i1⟩
  | .hbm, ⟨73, _⟩ => ⟨S_, .f32⟩
  | .hbm, ⟨74, _⟩ => ⟨S_, .f32⟩
  | .hbm, ⟨75, _⟩ => ⟨S3x16x14208, .f32⟩
  | .hbm, ⟨76, _⟩ => ⟨S3x16x14208, .f32⟩
  | .hbm, ⟨77, _⟩ => ⟨S_, .f32⟩
  | .hbm, ⟨78, _⟩ => ⟨S3x16x14208, .f32⟩
  | .hbm, ⟨79, _⟩ => ⟨S3x16x14208, .f32⟩
  | .hbm, ⟨80, _⟩ => ⟨S3x16x14208, .f32⟩
  | .hbm, ⟨81, _⟩ => ⟨S_, .f32⟩
  | .hbm, ⟨82, _⟩ => ⟨S3x16x14208, .f32⟩
  | .hbm, ⟨83, _⟩ => ⟨S3x16x14208, .f32⟩
  | .hbm, ⟨84, _⟩ => ⟨S3x16x1x14208, .f32⟩
  | .hbm, ⟨85, _⟩ => ⟨S3x16x128x14208, .f32⟩
  | .hbm, ⟨86, _⟩ => ⟨S3x16x128x14208, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S3x16x128x14208, .f32⟩
  | .hbm, ⟨91, _⟩ => ⟨S3x16x128x14208, .f32⟩
  | .hbm, ⟨92, _⟩ => ⟨S_, .f32⟩
  | .hbm, ⟨93, _⟩ => ⟨S3x16x128x14208, .f32⟩
  | .hbm, ⟨94, _⟩ => ⟨S3x16x128x14208, .f32⟩
  | .hbm, ⟨95, _⟩ => ⟨S3x2048x14208, .f32⟩
  | .hbm, ⟨96, _⟩ => ⟨S3x16x1920, .bf16⟩
  | .hbm, ⟨97, _⟩ => ⟨S3x16x128x1920, .bf16⟩
  | .hbm, ⟨98, _⟩ => ⟨S3x2048x1920, .bf16⟩
  | .hbm, ⟨99, _⟩ => ⟨S3x16x14208, .bf16⟩
  | .hbm, ⟨100, _⟩ => ⟨S3x16x128x14208, .bf16⟩
  | .hbm, ⟨101, _⟩ => ⟨S3x2048x14208, .bf16⟩
  | .hbm, ⟨102, _⟩ => ⟨S1920x14208, .f32⟩
  | .hbm, ⟨103, _⟩ => ⟨S3x2048x1920, .fp8e4m3⟩
  | .hbm, ⟨104, _⟩ => ⟨S3x2048x14208, .fp8e4m3⟩
  | .local _ .vmem, ⟨0, _⟩ => ⟨S3x2048x1920, .f32⟩
  | .local _ .vmem, ⟨1, _⟩ => ⟨S3x2048x1920, .bf16⟩
  | .local _ .vmem, ⟨2, _⟩ => ⟨S3x2048x14208, .f32⟩
  | .local _ .vmem, ⟨3, _⟩ => ⟨S3x2048x14208, .bf16⟩
  | .local _ .vmem, ⟨4, _⟩ => ⟨S1920x14208, .f32⟩
  | .local _ .vmem, ⟨5, _⟩ => ⟨S3x2048x1920, .fp8e4m3⟩
  | .local _ .vmem, ⟨6, _⟩ => ⟨S3x2048x14208, .fp8e4m3⟩
  | _, _ => ⟨S3x2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_16 : Ref sig .tc := ⟨.hbm, 73, rfl⟩
abbrev main_call2_v0 : Ref sig .tc := ⟨.hbm, 74, rfl⟩
abbrev main_call2_v1 : Ref sig .tc := ⟨.hbm, 75, rfl⟩
abbrev main_v47 : Ref sig .tc := ⟨.hbm, 76, rfl⟩
abbrev main_cst_17 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_18 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_19 : Ref sig .tc := ⟨.hbm, 87, rfl⟩
abbrev main_cst_20 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64_0 : Ref sig .tc := ⟨.hbm, 102, rfl⟩
abbrev main_v64_1 : Ref sig .tc := ⟨.hbm, 103, rfl⟩
abbrev main_v64_2 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x2048x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2048x14208 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x14208 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x14208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x14208 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Ref.lean ====
module

public import proofs.«01_k».proof.Proof.Gen.ReferenceIdeal.Value
public import proofs.«01_k».proof.Proof.Gen.ReferenceIdeal.Frame
-- ==== Proof.Quant.lean ====
/- The quantiser of one 128-token group, as both kernels compute it: the largest magnitude of each channel, the
   exponent word of a 448th of it found bit by bit, the group's power-of-two scale and the scale's inverse, the
   codes, and the codes widened back. Over `n` channels: a block is `128 × n`, a row of per-channel values `1 × n`. -/
module

public import Idealize.ShloMosaic.Lib.Pipeline
public import Idealize.ShloMosaic.PureOps

@[expose] public section

noncomputable section

namespace Quant

open Idealize.ShloMosaic

/-- The block of one group: 128 tokens by `n` channels. -/
abbrev Blk (n : ℕ) : Shape := ⟨2, ![128, n]⟩
/-- One value per channel, as a row. -/
abbrev Row (n : ℕ) : Shape := ⟨2, ![1, n]⟩
/-- One value per channel, as a vector. -/
abbrev Vct (n : ℕ) : Shape := ⟨1, ![n]⟩

/-- What the operations below ask of the shapes. -/
structure Facts (n : ℕ) : Prop where
  same : (Blk n).ShapeCasts (Blk n)
  red : (Blk n).Reduces [0] (Vct n)
  row : (Vct n).ShapeCasts (Row n)
  spread : (Row n).Broadcasts (Blk n)

variable {F : FTy → Type} [FloatOps F] {n : ℕ} (H : Facts n)

/-- A 448th of each channel's largest magnitude. -/
def yOf (v : FVec F (Blk n) .bf16) : FVec F (Row n) .f32 :=
  mulf (extf .f32 (shapeCast (Row n) (multiReduction .maximumf [0] (Vct n) (absf (shapeCast (Blk n) v H.same)) 0xFF80#16
    H.red (.inr rfl) rfl) H.row) (by decide)) (broadcast (Row n) (Scalar.ofBits .f32 0x3B124925#32))

/-- One step of the search: the bit `c` stays if the word with it reads at most `y`. -/
def bitStep (y : FVec F (Row n) .f32) (bits : IVec (Row n) 32) (c : BitVec 32) : IVec (Row n) 32 :=
  select (cmpf .oge y (bitcastToFloat .f32 (ori bits (broadcast (Row n) c)))) (ori bits (broadcast (Row n) c)) bits

/-- The eight steps. -/
def search (y : FVec F (Row n) .f32) : IVec (Row n) 32 :=
  bitStep y (bitStep y (bitStep y (bitStep y (bitStep y (bitStep y (bitStep y (bitStep y (broadcast (Row n) 0#32)
    1073741824#32) 536870912#32) 268435456#32) 134217728#32) 67108864#32) 33554432#32) 16777216#32) 8388608#32

/-- The exponent word of `y`. -/
def fieldOf (y : FVec F (Row n) .f32) : IVec (Row n) 32 :=
  andi (select (cmpf .oge y (broadcast (Row n) (Scalar.ofBits .f32 0x7B800000#32))) (broadcast (Row n) 2139095040#32) (search y))
    (broadcast (Row n) 2139095040#32)

/-- The word of the scale. -/
def sbitsOf (y : FVec F (Row n) .f32) : IVec (Row n) 32 :=
  select (ori (cmpi .eq (fieldOf y) (broadcast (Row n) 0#32)) (cmpi .eq (fieldOf y) (broadcast (Row n) 2139095040#32)))
    (broadcast (Row n) 1065353216#32) (addi (fieldOf y) (broadcast (Row n) 8388608#32))

/-- The scale. -/
def scaleOf (v : FVec F (Blk n) .bf16) : FVec F (Row n) .f32 :=
  bitcastToFloat .f32 (sbitsOf (yOf H v))

/-- The scale's inverse. -/
def invOf (v : FVec F (Blk n) .bf16) : FVec F (Row n) .f32 :=
  bitcastToFloat .f32 (subi (broadcast (Row n) 2130706432#32) (sbitsOf (yOf H v)))

/-- The codes. -/
def codesOf (v : FVec F (Blk n) .bf16) : FVec F (Blk n) .fp8e4m3 :=
  truncf .fp8e4m3 (minimumf (broadcast (Blk n) (Scalar.ofBits .bf16 0x43E0#16)) (maximumf (broadcast (Blk n) (Scalar.ofBits .bf16 0xC3E0#16))
    (mulf (shapeCast (Blk n) v H.same) (broadcastTo (Blk n) (truncf .bf16 (invOf H v) (by decide)) H.spread)))) (by decide)

/-- The codes widened back. -/
def hatOf (v : FVec F (Blk n) .bf16) : FVec F (Blk n) .bf16 :=
  mulf (extf .bf16 (codesOf H v) (by decide)) (broadcastTo (Blk n) (truncf .bf16 (scaleOf H v) (by decide)) H.spread)

end Quant

end
-- ==== Proof.DwBodyB.lean ====
/- The second kernel's body as what it is: one step per 128-token group, then one product per 256 tokens. -/
module

public import proofs.«01_k».proof.Proof.Gen.Kernel
public import proofs.«01_k».proof.Proof.Quant
public import Idealize.ShloMosaic.Lib.Pipeline.Regions

@[expose] public section

set_option maxRecDepth 16384

noncomputable section

namespace Cert.Kernel.Own

open Idealize.ShloMosaic Idealize.SL.Sem Cert.Kernel.Gen

variable {F : FTy → Type} [FloatOps F]

/-- The quantiser's shape facts at 256 channels. -/
theorem qdw : Quant.Facts 256 := ⟨shapeCasts_S128x256_S128x256, reduces_S128x256_S256, shapeCasts_S256_S1x256, broadcasts_S1x256_S128x256⟩

/-- Group `g`'s 128 rows of a 6144-row block. -/
theorem inb_rows (g : Fin 48) : ∀ a, (![128 * g.val, 0] : Fin 2 → Nat) a + S128x256.size a ≤ S6144x256.size a := by
  have := g.isLt
  intro a
  match a with
  | 0 => show 128 * g.val + 128 ≤ 6144; omega
  | 1 => show 0 + 256 ≤ 256; omega

abbrev rows (g : Fin 48) : Rect S6144x256 := Rect.unit (s := S6144x256) ![128 * g.val, 0] S128x256.size (inb_rows g)

theorem packed8 : ∀ g : Fin 48, (rows g).PackedRows (EltTy.packing .fp8e4m3) := by decide +kernel
theorem packed16 : ∀ g : Fin 48, (rows g).PackedRows (EltTy.packing .bf16) := by decide +kernel

/-- Group `g`'s row of the scales. -/
theorem inb_srow (g : Fin 48) : ∀ a, (![g.val, 0] : Fin 2 → Nat) a + S1x256.size a ≤ S48x256.size a := by
  have := g.isLt
  intro a
  match a with
  | 0 => show g.val + 1 ≤ 48; omega
  | 1 => show 0 + 256 ≤ 256; omega

abbrev srow (g : Fin 48) : Rect S48x256 := Rect.unit (s := S48x256) ![g.val, 0] S1x256.size (inb_srow g)

/-- Chunk `k` of the transposed widened codes of `x`. -/
theorem inb_xt (k : Fin 24) : ∀ a, (![k.val, 0, 0] : Fin 3 → Nat) a + S1x1920x256.size a ≤ S24x1920x256.size a := by
  have := k.isLt
  intro a
  match a with
  | 0 => show k.val + 1 ≤ 24; omega
  | 1 => show 0 + 1920 ≤ 1920; omega
  | 2 => show 0 + 256 ≤ 256; omega

abbrev xtRect (k : Fin 24) : Rect S24x1920x256 := Rect.unit (s := S24x1920x256) ![k.val, 0, 0] S1x1920x256.size (inb_xt k)

/-- Chunk `k` of the widened codes of `dy`. -/
theorem inb_chunk (k : Fin 24) : ∀ a, (![256 * k.val, 0] : Fin 2 → Nat) a + S256x256.size a ≤ S6144x256.size a := by
  have := k.isLt
  intro a
  match a with
  | 0 => show 256 * k.val + 256 ≤ 6144; omega
  | 1 => show 0 + 256 ≤ 256; omega

abbrev chunk (k : Fin 24) : Rect S6144x256 := Rect.unit (s := S6144x256) ![256 * k.val, 0] S256x256.size (inb_chunk k)

abbrev dwAll : Rect S1920x256 := Rect.unit (s := S1920x256) ![0, 0] S1920x256.size inb_S1920x256_S1920x256_0_0

/-- One group of `dy`: its codes, its scales and its widened codes stored. -/
def groupStep (arg2 : Memref sig .tc .vmem S6144x256 .bf16) (arg4 : Memref sig .tc .vmem S6144x256 .fp8e4m3) (harg4 : arg4.IsWhole)
    (arg5 : Memref sig .tc .vmem S48x256 .f32) (arg6 : Memref sig .tc .vmem S6144x256 .bf16) (harg6 : arg6.IsWhole) (g : Fin 48) :
    Prog (TpuEff nD τ sig (Elt F) Λ₀ .tc) PUnit := do
  let v : Vec F S128x256 .bf16 ← Prog.lift (.load arg2 (rows g).toLoadRect (View.loadsAt_vmem h_S128x256))
  let _ : Vec F S128x256 .fp8e4m3 ← Prog.lift (.load arg4 (rows g).toLoadRect (View.loadsAt_vmem h_S128x256))
  Prog.lift (.store arg4 (rows g) (Quant.codesOf qdw v) Finset.univ
    (View.stores_vmem h_S128x256 (harg4.storeExact_slice rfl _ (packed8 g)) (fun _ => rfl)) (.inl rfl))
  let _ : Vec F S1x256 .f32 ← Prog.lift (.load arg5 (srow g).toLoadRect (View.loadsAt_vmem h_S1x256))
  Prog.lift (.store arg5 (srow g) (Quant.scaleOf qdw v) Finset.univ (View.stores_vmem_bits_univ h_S1x256 rfl) (.inl rfl))
  let _ : Vec F S128x256 .bf16 ← Prog.lift (.load arg6 (rows g).toLoadRect (View.loadsAt_vmem h_S128x256))
  Prog.lift (.store arg6 (rows g) (shapeCast S128x256 (Quant.hatOf qdw v) shapeCasts_S128x256_S128x256) Finset.univ
    (View.stores_vmem h_S128x256 (harg6.storeExact_slice rfl _ (packed16 g)) (fun _ => rfl)) (.inl rfl))

/-- The product of one chunk of 256 tokens. -/
def prodOf (u : Vec F S1x1920x256 .bf16) (w : Vec F S256x256 .bf16) : FVec F S1920x256 .f32 :=
  matmul dot_S1920x256_S256x256_S1920x256_1_0_0_1_n_n none (shapeCast S1920x256 u shapeCasts_S1x1920x256_S1920x256) w
    (constant S1920x256 .f32 0x00000000#32)

/-- The first chunk's product, stored. -/
def dotFirst (arg1 : Memref sig .tc .vmem S24x1920x256 .bf16) (arg3 : Memref sig .tc .vmem S1920x256 .f32)
    (arg6 : Memref sig .tc .vmem S6144x256 .bf16) : Prog (TpuEff nD τ sig (Elt F) Λ₀ .tc) PUnit := do
  let u : Vec F S1x1920x256 .bf16 ← Prog.lift (.load arg1 (xtRect 0).toLoadRect (View.loadsAt_vmem h_S1x1920x256))
  let w : Vec F S256x256 .bf16 ← Prog.lift (.load arg6 (chunk 0).toLoadRect (View.loadsAt_vmem h_S256x256))
  let _ : Vec F S1920x256 .f32 ← Prog.lift (.load arg3 dwAll.toLoadRect (View.loadsAt_vmem h_S1920x256))
  Prog.lift (.store arg3 dwAll (prodOf u w) Finset.univ (View.stores_vmem_bits_univ h_S1920x256 rfl) (.inl rfl))

/-- A later chunk's product, added. -/
def dotStep (arg1 : Memref sig .tc .vmem S24x1920x256 .bf16) (arg3 : Memref sig .tc .vmem S1920x256 .f32)
    (arg6 : Memref sig .tc .vmem S6144x256 .bf16) (k : Fin 24) : Prog (TpuEff nD τ sig (Elt F) Λ₀ .tc) PUnit := do
  let u : Vec F S1x1920x256 .bf16 ← Prog.lift (.load arg1 (xtRect k).toLoadRect (View.loadsAt_vmem h_S1x1920x256))
  let w : Vec F S256x256 .bf16 ← Prog.lift (.load arg6 (chunk k).toLoadRect (View.loadsAt_vmem h_S256x256))
  let a : Vec F S1920x256 .f32 ← Prog.lift (.load arg3 dwAll.toLoadRect (View.loadsAt_vmem h_S1920x256))
  let _ : Vec F S1920x256 .f32 ← Prog.lift (.load arg3 dwAll.toLoadRect (View.loadsAt_vmem h_S1920x256))
  Prog.lift (.store arg3 dwAll (addf (shapeCast S1920x256 a shapeCasts_S1920x256_S1920x256) (prodOf u w)) Finset.univ
    (View.stores_vmem_bits_univ h_S1920x256 rfl) (.inl rfl))

/-- The body of the second kernel. -/
def dwBody (arg1 : Memref sig .tc .vmem S24x1920x256 .bf16) (arg2 : Memref sig .tc .vmem S6144x256 .bf16)
    (arg3 : Memref sig .tc .vmem S1920x256 .f32) (arg4 : Memref sig .tc .vmem S6144x256 .fp8e4m3) (harg4 : arg4.IsWhole)
    (arg5 : Memref sig .tc .vmem S48x256 .f32) (arg6 : Memref sig .tc .vmem S6144x256 .bf16) (harg6 : arg6.IsWhole) :
    Prog (TpuEff nD τ sig (Elt F) Λ₀ .tc) PUnit :=
  Pipeline.chain (((List.finRange 48).map (groupStep arg2 arg4 harg4 arg5 arg6 harg6)) ++
    dotFirst arg1 arg3 arg6 :: ((List.finRange 23).map fun k => dotStep arg1 arg3 arg6 k.succ))

theorem cc1_dw_eq (i : grid1.Coords) (arg1 : Memref sig .tc .vmem S24x1920x256 .bf16) (harg1 : arg1.IsWhole)
    (arg2 : Memref sig .tc .vmem S6144x256 .bf16) (harg2 : arg2.IsWhole) (arg3 : Memref sig .tc .vmem S1920x256 .f32) (harg3 : arg3.IsWhole)
    (arg4 : Memref sig .tc .vmem S6144x256 .fp8e4m3) (harg4 : arg4.IsWhole) (arg5 : Memref sig .tc .vmem S48x256 .f32) (harg5 : arg5.IsWhole)
    (arg6 : Memref sig .tc .vmem S6144x256 .bf16) (harg6 : arg6.IsWhole) :
    cc1_dw (F := F) i arg1 harg1 arg2 harg2 arg3 harg3 arg4 harg4 arg5 harg5 arg6 harg6
      = dwBody arg1 arg2 arg3 arg4 harg4 arg5 arg6 harg6 := by
  chain_rfl

end Cert.Kernel.Own

end
-- ==== Proof.Mem.lean ====
/- Loads and stores of rectangles of a buffer, by the contents read through the memref: a rectangle of the contents,
   the contents with a rectangle replaced, and the contents after a list of such replacements. -/
module

public import Idealize.ShloMosaic.Lib.Pipeline.Regions
public import Idealize.ShloMosaic.Lib.VecWindow

@[expose] public section

noncomputable section

namespace Mem

open Idealize.ShloMosaic Idealize.SL Idealize.SL.RA Idealize.SL.BI
open scoped Idealize.SL.BI
open Idealize.SL.BI.BIBase Idealize.SL.BI.Laws Idealize.SL.ProofMode Idealize.SL.Sem

/-- The elements of a rectangle. -/
def sub {s : Shape} {V : Type} (r : Rect s) (X : s.Idx → V) : r.shape.Idx → V := fun x => X (r.emb x)

open Classical in
/-- The contents with a rectangle replaced. -/
def put {s : Shape} {V : Type} (r : Rect s) (w : r.shape.Idx → V) (X : s.Idx → V) : s.Idx → V :=
  fun y => if h : ∃ x, r.emb x = y then w h.choose else X y

theorem put_emb {s : Shape} {V : Type} (r : Rect s) (w : r.shape.Idx → V) (X : s.Idx → V) (x : r.shape.Idx) :
    put r w X (r.emb x) = w x := by
  have h : ∃ x', r.emb x' = r.emb x := ⟨x, rfl⟩
  unfold put
  rw [dif_pos h]
  exact congrArg w (r.emb.injective h.choose_spec)

theorem put_of_not {s : Shape} {V : Type} (r : Rect s) (w : r.shape.Idx → V) (X : s.Idx → V) (y : s.Idx)
    (h : ¬ ∃ x, r.emb x = y) : put r w X y = X y := dif_neg h

/-- A rectangle that is everything, replaced. -/
theorem put_all {s : Shape} {V : Type} (r : Rect s) (w : r.shape.Idx → V) (X G : s.Idx → V)
    (hG : ∀ x, w x = G (r.emb x)) (h : ∀ y, ∃ x, r.emb x = y) : put r w X = G := by
  funext y
  obtain ⟨x, rfl⟩ := h y
  rw [put_emb, hG]

/-- Rectangles replaced one after the other by the rectangles of one function: each element some rectangle has is that
    function's. -/
theorem foldl_put {s : Shape} {V ι : Type} (r : ι → Rect s) (w : ∀ g, (r g).shape.Idx → V) (G : s.Idx → V)
    (hG : ∀ g x, w g x = G ((r g).emb x)) (y : s.Idx) :
    ∀ (l : List ι) (X : s.Idx → V), (X y = G y ∨ ∃ g ∈ l, ∃ x, (r g).emb x = y) →
      l.foldl (fun X g => put (r g) (w g) X) X y = G y
  | [], X, h => by
      rcases h with h | ⟨g, hg, _⟩
      · exact h
      · exact absurd hg (List.not_mem_nil)
  | g :: l, X, h => by
      rw [List.foldl_cons]
      refine foldl_put r w G hG y l _ ?_
      by_cases hy : ∃ x, (r g).emb x = y
      · obtain ⟨x, rfl⟩ := hy
        exact .inl ((put_emb _ _ _ _).trans (hG g x))
      · rcases h with h | ⟨g', hg', hx⟩
        · exact .inl ((put_of_not _ _ _ _ hy).trans h)
        · rcases List.mem_cons.mp hg' with rfl | hm
          · exact absurd hx hy
          · exact .inr ⟨g', hm, hx⟩

theorem foldl_put_eq {s : Shape} {V ι : Type} (r : ι → Rect s) (w : ∀ g, (r g).shape.Idx → V) (G : s.Idx → V)
    (hG : ∀ g x, w g x = G ((r g).emb x)) (l : List ι) (X : s.Idx → V) (hl : ∀ y, ∃ g ∈ l, ∃ x, (r g).emb x = y) :
    l.foldl (fun X g => put (r g) (w g) X) X = G :=
  funext fun y => foldl_put r w G hG y l X (.inr (hl y))

/-- Indices with the same coordinates are the same. -/
theorem ext2 {d : Fin 2 → Nat} {a b : (⟨2, d⟩ : Shape).Idx} (h0 : (a 0).val = (b 0).val) (h1 : (a 1).val = (b 1).val) : a = b := by
  funext k
  match k with
  | 0 => exact Fin.ext h0
  | 1 => exact Fin.ext h1
theorem ext3 {d : Fin 3 → Nat} {a b : (⟨3, d⟩ : Shape).Idx} (h0 : (a 0).val = (b 0).val) (h1 : (a 1).val = (b 1).val)
    (h2 : (a 2).val = (b 2).val) : a = b := by
  funext k
  match k with
  | 0 => exact Fin.ext h0
  | 1 => exact Fin.ext h1
  | 2 => exact Fin.ext h2

/-- A whole rectangle reads everything, and replaces everything. -/
theorem sub_full {s : Shape} {V : Type} {off : Fin s.rank → ℕ} (inb : ∀ a, off a + s.size a ≤ s.size a) (X : s.Idx → V) :
    sub (Rect.unit off s.size inb) X = X := funext fun x => congrArg X (Rect.emb_unit_full inb x)
theorem put_full {s : Shape} {V : Type} {off : Fin s.rank → ℕ} (inb : ∀ a, off a + s.size a ≤ s.size a) (w : s.Idx → V) (X : s.Idx → V) :
    put (Rect.unit off s.size inb) w X = w :=
  put_all _ _ _ _ (fun x => congrArg w (Rect.emb_unit_full inb x).symm) fun y => ⟨y, Rect.emb_unit_full inb y⟩

variable {nD : Nat} {τ : Topo} {sig : RefSig} {Ix : Type} [DecidableEq Ix]
variable {Val : EltTy → Type} {Name : Type} [DecidableEq Name]
variable {U : Type} [RA.URA U]
variable {Lvl : Type} [Preorder Lvl] {Λ : Labels} {defs : Defs nD τ sig Val Λ} (𝒱 : Variants) (c : Thread nD τ)
  (bd : Option 𝒱.V) (E : Set Name)
variable {s : Shape} {e : EltTy} {α : Type}

local notation "𝕄" => MT nD τ sig Ix Val Name U Lvl

/-- A load of a rectangle goes on at that rectangle of the contents. -/
theorem load {cs : CoreSpace} {m : Memref sig c.2.kind cs s e} {r : Rect s} {hl : m.view.LoadsAt r.toLoadRect}
    {k : (r.shape.Idx → Val e) → Prog (TpuEff nD τ sig Val Λ c.2) α} {Q : α → sProp 𝕄} {q : PosShare TreeShare}
    {X : s.Idx → Val e} :
    (owns c m q X : sProp 𝕄)
      ⊢ iprop((owns c m q X -∗ wp frame (wpE defs 𝒱 c bd) E (k (sub r X)) Q)
        -∗ wp frame (wpE defs 𝒱 c bd) E (.op (.load m r.toLoadRect hl) k) Q) := by
  unfold owns
  iintro ⟨%f, %hf, H⟩ K
  subst hf
  ihave H := (wp_load_rect (defs := defs) (Γ := []) (m := m) (r := r) (hl := hl) (k := k) (Q := Q) (S := m.view.set) (q := q) (f := f) 𝒱 c bd E
    (View.set_slice_subset m.view r)) $$ H
  iapply H
  iintro H
  iapply K
  iexists f
  isplitr
  · ipureintro; rfl
  · iexact H

/-- A store of a rectangle goes on with it replaced. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Q : α → sProp 𝕄} {X : s.Idx → Val e} :
    (owns c m fullShare X : sProp 𝕄)
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ K
  subst hf
  ihave H := (wp_store (defs := defs) (Γ := []) (m := m) (r := r) (w := w) (hx := hx) (hm := hm) (k := k) (Q := Q) (S := m.view.set) (f := f) 𝒱 c bd E
    (View.set_slice_subset m.view r)) $$ H
  iapply H
  iintro H
  iapply K
  iexists _
  isplitr
  · ipureintro
    funext y
    by_cases hy : ∃ x, r.emb x = y
    · obtain ⟨x, rfl⟩ := hy
      rw [put_emb]
      exact View.read_slice_write_emb (v := m.view) r f w (Finset.mem_univ x)
    · rw [put_of_not _ _ _ _ hy]
      refine View.read_slice_write_of_not_mem (v := m.view) r f w Finset.univ ?_
      rintro h
      obtain ⟨x, -, hx⟩ := Finset.mem_map.mp h
      exact hy ⟨x, hx⟩
  · iexact H

end Mem

end
-- ==== Proof.DwRunB.lean ====
/- What the second kernel's body leaves in its buffers: the codes, the scales and the widened codes of every group, and
   the sum of the chunks' products. -/
module

public import proofs.«01_k».proof.Proof.DwBodyB
public import proofs.«01_k».proof.Proof.Mem
public import proofs.«01_k».proof.Proof.Gen.Kernel.Launch
public import Idealize.ShloMosaic.Lib.Pipeline.KitQuiescent
public import Idealize.ShloMosaic.Lib.Tactic
public import Idealize.ShloMosaic.Lib.ValueIdxCore
public import Idealize.ShloMosaic.Lib.Pipeline.Value

@[expose] public section

set_option maxRecDepth 16384

noncomputable section

namespace Cert.Kernel.Own

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The kernel's variants: none. -/
abbrev 𝒱₀ : Variants := Variants.none

variable (arg1 : Memref sig .tc .vmem S24x1920x256 .bf16) (arg2 : Memref sig .tc .vmem S6144x256 .bf16)
  (arg3 : Memref sig .tc .vmem S1920x256 .f32) (arg4 : Memref sig .tc .vmem S6144x256 .fp8e4m3) (harg4 : arg4.IsWhole)
  (arg5 : Memref sig .tc .vmem S48x256 .f32) (arg6 : Memref sig .tc .vmem S6144x256 .bf16) (harg6 : arg6.IsWhole)

/-- What is held of `dy`'s block and of the three buffers filled from it. -/
def heldQ (c : Dev nD) (D : Vec F S6144x256 .bf16) (C : Vec F S6144x256 .fp8e4m3) (S : Vec F S48x256 .f32)
    (W : Vec F S6144x256 .bf16) : sProp 𝕄 :=
  iprop(owns (c : Thread nD τ) arg2 fullShare D ∗ owns (c : Thread nD τ) arg4 fullShare C
    ∗ owns (c : Thread nD τ) arg5 fullShare S ∗ owns (c : Thread nD τ) arg6 fullShare W)

/-- Group `g`'s stored codes, scales and widened codes. -/
abbrev codesG (D : Vec F S6144x256 .bf16) (g : Fin 48) : Vec F S128x256 .fp8e4m3 := Quant.codesOf qdw (Mem.sub (rows g) D)
abbrev scalesG (D : Vec F S6144x256 .bf16) (g : Fin 48) : Vec F S1x256 .f32 := Quant.scaleOf qdw (Mem.sub (rows g) D)
abbrev hatsG (D : Vec F S6144x256 .bf16) (g : Fin 48) : Vec F S128x256 .bf16 :=
  shapeCast S128x256 (Quant.hatOf qdw (Mem.sub (rows g) D)) shapeCasts_S128x256_S128x256

theorem groupStep_wp (c : Dev nD) (E : Set ℕ) (D C S W) (g : Fin 48) (rest : Prog (TpuEff nD τ sig (Elt F) Λ₀ .tc) PUnit)
    (K : PUnit → sProp 𝕄) :
    iprop(heldQ arg2 arg4 arg5 arg6 c D C S W
        ∗ (heldQ arg2 arg4 arg5 arg6 c D (Mem.put (rows g) (codesG D g) C) (Mem.put (srow g) (scalesG D g) S)
              (Mem.put (rows g) (hatsG D g) W)
            -∗ wp frame (wpE (defs₀ (F := F)) 𝒱₀ c none) E rest K))
      ⊢ wp frame (wpE (defs₀ (F := F)) 𝒱₀ c none) E
          (groupStep arg2 arg4 harg4 arg5 arg6 harg6 g >>= fun _ => rest) K := by
  unfold groupStep heldQ
  simp only [Prog.lift, Prog.bind_op, Prog.bind_ret]
  iintro ⟨⟨H2, H4, H5, H6⟩, Hk⟩
  iapply (Mem.load (defs := defs₀ (F := F)) 𝒱₀ (c : Thread nD τ) none E) $$ H2
  iintro H2
  iapply (Mem.load (defs := defs₀ (F := F)) 𝒱₀ (c : Thread nD τ) none E) $$ H4
  iintro H4
  iapply (Mem.store (defs := defs₀ (F := F)) 𝒱₀ (c : Thread nD τ) none E) $$ H4
  iintro H4
  iapply (Mem.load (defs := defs₀ (F := F)) 𝒱₀ (c : Thread nD τ) none E) $$ H5
  iintro H5
  iapply (Mem.store (defs := defs₀ (F := F)) 𝒱₀ (c : Thread nD τ) none E) $$ H5
  iintro H5
  iapply (Mem.load (defs := defs₀ (F := F)) 𝒱₀ (c : Thread nD τ) none E) $$ H6
  iintro H6
  iapply (Mem.store (defs := defs₀ (F := F)) 𝒱₀ (c : Thread nD τ) none E) $$ H6
  iintro H6
  iapply Hk
  isplitl [H2]; · iexact H2
  isplitl [H4]; · iexact H4
  isplitl [H5]; · iexact H5
  iexact H6

/-- The groups of a list, one after the other. -/
theorem groups_wp (c : Dev nD) (E : Set ℕ) (D) (rest : List (Prog (TpuEff nD τ sig (Elt F) Λ₀ .tc) PUnit)) (K : PUnit → sProp 𝕄) :
    ∀ (l : List (Fin 48)) (C S W),
    iprop(heldQ arg2 arg4 arg5 arg6 c D C S W
        ∗ (heldQ arg2 arg4 arg5 arg6 c D (l.foldl (fun C g => Mem.put (rows g) (codesG D g) C) C)
              (l.foldl (fun S g => Mem.put (srow g) (scalesG D g) S) S) (l.foldl (fun W g => Mem.put (rows g) (hatsG D g) W) W)
            -∗ wp frame (wpE (defs₀ (F := F)) 𝒱₀ c none) E (Pipeline.chain rest) K))
      ⊢ wp frame (wpE (defs₀ (F := F)) 𝒱₀ c none) E
          (Pipeline.chain (l.map (groupStep arg2 arg4 harg4 arg5 arg6 harg6) ++ rest)) K
  | [], C, S, W => by
      iintro ⟨H, Hk⟩
      iapply Hk
      iexact H
  | g :: l, C, S, W => by
      rw [List.map_cons, List.cons_append, Pipeline.chain_cons, List.foldl_cons, List.foldl_cons, List.foldl_cons]
      iintro ⟨H, Hk⟩
      iapply (groupStep_wp arg2 arg4 harg4 arg5 arg6 harg6 c E D C S W g)
      isplitl [H]; · iexact H
      iintro H
      iapply (groups_wp c E D rest K l)
      isplitl [H]; · iexact H
      iexact Hk

/-- The sum after a later chunk, from the sum before it. -/
def accOf (X : Vec F S24x1920x256 .bf16) (W : Vec F S6144x256 .bf16) (A : Vec F S1920x256 .f32) (k : Fin 24) : Vec F S1920x256 .f32 :=
  Mem.put dwAll (addf (shapeCast S1920x256 (Mem.sub dwAll A) shapeCasts_S1920x256_S1920x256)
    (prodOf (Mem.sub (xtRect k) X) (Mem.sub (chunk k) W))) A

/-- What is held of the factors and of the sum. -/
def heldD (c : Dev nD) (X : Vec F S24x1920x256 .bf16) (A : Vec F S1920x256 .f32) (W : Vec F S6144x256 .bf16) : sProp 𝕄 :=
  iprop(owns (c : Thread nD τ) arg1 fullShare X ∗ owns (c : Thread nD τ) arg3 fullShare A
    ∗ owns (c : Thread nD τ) arg6 fullShare W)

theorem dotFirst_wp (c : Dev nD) (E : Set ℕ) (X A W) (rest : Prog (TpuEff nD τ sig (Elt F) Λ₀ .tc) PUnit) (K : PUnit → sProp 𝕄) :
    iprop(heldD arg1 arg3 arg6 c X A W
        ∗ (heldD arg1 arg3 arg6 c X (Mem.put dwAll (prodOf (Mem.sub (xtRect 0) X) (Mem.sub (chunk 0) W)) A) W
            -∗ wp frame (wpE (defs₀ (F := F)) 𝒱₀ c none) E rest K))
      ⊢ wp frame (wpE (defs₀ (F := F)) 𝒱₀ c none) E (dotFirst arg1 arg3 arg6 >>= fun _ => rest) K := by
  unfold dotFirst heldD
  simp only [Prog.lift, Prog.bind_op, Prog.bind_ret]
  iintro ⟨⟨H1, H3, H6⟩, Hk⟩
  iapply (Mem.load (defs := defs₀ (F := F)) 𝒱₀ (c : Thread nD τ) none E) $$ H1
  iintro H1
  iapply (Mem.load (defs := defs₀ (F := F)) 𝒱₀ (c : Thread nD τ) none E) $$ H6
  iintro H6
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply Hk
  isplitl [H1]; · iexact H1
  isplitl [H3]; · iexact H3
  iexact H6

theorem dotStep_wp (c : Dev nD) (E : Set ℕ) (X A W) (k : Fin 24) (rest : Prog (TpuEff nD τ sig (Elt F) Λ₀ .tc) PUnit) (K : PUnit → sProp 𝕄) :
    iprop(heldD arg1 arg3 arg6 c X A W
        ∗ (heldD arg1 arg3 arg6 c X (accOf X W A k) W
            -∗ wp frame (wpE (defs₀ (F := F)) 𝒱₀ c none) E rest K))
      ⊢ wp frame (wpE (defs₀ (F := F)) 𝒱₀ c none) E (dotStep arg1 arg3 arg6 k >>= fun _ => rest) K := by
  unfold dotStep heldD
  simp only [Prog.lift, Prog.bind_op, Prog.bind_ret]
  iintro ⟨⟨H1, H3, H6⟩, Hk⟩
  iapply (Mem.load (defs := defs₀ (F := F)) 𝒱₀ (c : Thread nD τ) none E) $$ H1
  iintro H1
  iapply (Mem.load (defs := defs₀ (F := F)) 𝒱₀ (c : Thread nD τ) none E) $$ H6
  iintro H6
  iapply (Mem.load (defs := defs₀ (F := F)) 𝒱₀ (c : Thread nD τ) none E) $$ H3
  iintro H3
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply Hk
  isplitl [H1]; · iexact H1
  isplitl [H3]; · iexact H3
  iexact H6

/-- The later chunks of a list, one after the other. -/
theorem dots_wp (c : Dev nD) (E : Set ℕ) (X W) (K : PUnit → sProp 𝕄) :
    ∀ (l : List (Fin 23)) (A),
    iprop(heldD arg1 arg3 arg6 c X A W
        ∗ (heldD arg1 arg3 arg6 c X (l.foldl (fun A k => accOf X W A k.succ) A) W -∗ K ⟨⟩))
      ⊢ wp frame (wpE (defs₀ (F := F)) 𝒱₀ c none) E (Pipeline.chain (l.map fun k => dotStep arg1 arg3 arg6 k.succ)) K
  | [], A => by
      rw [List.map_nil, Pipeline.chain_nil, List.foldl_nil]
      show _ ⊢ wp frame (wpE (defs₀ (F := F)) 𝒱₀ c none) E (Prog.ret PUnit.unit) K
      iintro ⟨H, Hk⟩
      iapply le_wp_ret
      iapply Hk
      iexact H
  | k :: l, A => by
      rw [List.map_cons, Pipeline.chain_cons, List.foldl_cons]
      iintro ⟨H, Hk⟩
      iapply (dotStep_wp arg1 arg3 arg6 c E X A W k.succ)
      isplitl [H]; · iexact H
      iintro H
      iapply (dots_wp c E X W K l)
      isplitl [H]; · iexact H
      iexact Hk

/-- The block's row `y` lies in group `y / 128`, at row `y % 128` of it. -/
def grp (y : S6144x256.Idx) : Fin 48 := ⟨(y 0).val / 128, Nat.div_lt_of_lt_mul (y 0).isLt⟩
def inGrp (y : S6144x256.Idx) : S128x256.Idx := ix2 (n0 := 128) (n1 := 256) ⟨(y 0).val % 128, Nat.mod_lt _ (by decide)⟩ (y 1)

theorem rows_emb0 (g : Fin 48) (x : S128x256.Idx) : ((rows g).emb x 0).val = 128 * g.val + (x 0).val := by
  show 128 * g.val + 1 * (x 0).val = _; omega
theorem rows_emb1 (g : Fin 48) (x : S128x256.Idx) : ((rows g).emb x 1).val = (x 1).val := by
  show 0 + 1 * (x 1).val = _; omega

theorem rows_grp (y : S6144x256.Idx) : (rows (grp y)).emb (inGrp y) = y :=
  Mem.ext2 ((rows_emb0 _ _).trans (by show 128 * ((y 0).val / 128) + (y 0).val % 128 = _; omega)) (rows_emb1 _ _)

theorem grp_rows (g : Fin 48) (x : S128x256.Idx) : grp ((rows g).emb x) = g := by
  have := idx2_lt0 x
  refine Fin.ext ?_
  show ((rows g).emb x 0).val / 128 = _
  rw [rows_emb0]; omega

theorem inGrp_rows (g : Fin 48) (x : S128x256.Idx) : inGrp ((rows g).emb x) = x := by
  have := idx2_lt0 x
  refine Mem.ext2 ?_ (rows_emb1 _ _)
  show ((rows g).emb x 0).val % 128 = _
  rw [rows_emb0]; omega

/-- All the codes, scales and widened codes of a block, group by group. -/
def byGroup {V : Type} (f : Fin 48 → S128x256.Idx → V) : S6144x256.Idx → V := fun y => f (grp y) (inGrp y)

theorem byGroup_rows {V : Type} (f : Fin 48 → S128x256.Idx → V) (g : Fin 48) (x : S128x256.Idx) :
    f g x = byGroup f ((rows g).emb x) := by
  show _ = f (grp _) (inGrp _)
  rw [grp_rows, inGrp_rows]

def codesAll (D : Vec F S6144x256 .bf16) : Vec F S6144x256 .fp8e4m3 := byGroup (codesG D)
def scalesAll (D : Vec F S6144x256 .bf16) : Vec F S48x256 .f32 := fun y => scalesG D (y 0) (ix2 (n0 := 1) (n1 := 256) 0 (y 1))
def hatsAll (D : Vec F S6144x256 .bf16) : Vec F S6144x256 .bf16 := byGroup (hatsG D)

theorem foldl_rows {V : Type} (f : Fin 48 → S128x256.Idx → V) (X : S6144x256.Idx → V) :
    (List.finRange 48).foldl (fun C g => Mem.put (rows g) (f g) C) X = byGroup f :=
  Mem.foldl_put_eq (fun g => rows g) f _ (byGroup_rows f) _ X fun y => ⟨grp y, List.mem_finRange _, inGrp y, rows_grp y⟩

theorem foldl_srow (D : Vec F S6144x256 .bf16) (X : Vec F S48x256 .f32) :
    (List.finRange 48).foldl (fun S g => Mem.put (srow g) (scalesG D g) S) X = scalesAll D := by
  refine Mem.foldl_put_eq (fun g => srow g) (scalesG D) _ (fun g x => ?_) _ X
    fun y => ⟨y 0, List.mem_finRange _, ix2 (n0 := 1) (n1 := 256) 0 (y 1), ?_⟩
  · have h0 : (srow g).emb x 0 = g := Fin.ext (by
      have := idx2_lt0 (n0 := 1) (n1 := 256) x
      show g.val + 1 * (x 0).val = _; omega)
    have h1 : ix2 (n0 := 1) (n1 := 256) 0 ((srow g).emb x 1) = x := Mem.ext2 (by
      have := idx2_lt0 (n0 := 1) (n1 := 256) x
      show 0 = (x 0).val; omega) (by show 0 + 1 * (x 1).val = _; omega)
    show _ = scalesG D _ _
    rw [h0, h1]
  · exact Mem.ext2 (by show (y 0).val + 1 * 0 = _; omega) (by show 0 + 1 * (y 1).val = _; omega)

/-- The sum of the chunks' products, in order. -/
def dwOf (X : Vec F S24x1920x256 .bf16) (W : Vec F S6144x256 .bf16) : Vec F S1920x256 .f32 :=
  (List.finRange 23).foldl (fun A k => addf A (prodOf (Mem.sub (xtRect k.succ) X) (Mem.sub (chunk k.succ) W)))
    (prodOf (Mem.sub (xtRect 0) X) (Mem.sub (chunk 0) W))

theorem accOf_eq (X : Vec F S24x1920x256 .bf16) (W : Vec F S6144x256 .bf16) (A : Vec F S1920x256 .f32) (k : Fin 24) :
    accOf X W A k = addf A (prodOf (Mem.sub (xtRect k) X) (Mem.sub (chunk k) W)) := by
  have h : shapeCast S1920x256 (Mem.sub dwAll A) shapeCasts_S1920x256_S1920x256 = A :=
    (shapeCast_self _ _).trans (Mem.sub_full (s := S1920x256) inb_S1920x256_S1920x256_0_0 A)
  exact (Mem.put_full (s := S1920x256) inb_S1920x256_S1920x256_0_0 _ A).trans
    (congrArg (fun B => addf B (prodOf (Mem.sub (xtRect k) X) (Mem.sub (chunk k) W))) h)

/-- The body: the block's codes, scales and widened codes, and the sum. -/
theorem dw_wp (i : grid1.Coords) (harg1 : arg1.IsWhole) (harg2 : arg2.IsWhole) (harg3 : arg3.IsWhole) (harg5 : arg5.IsWhole)
    (c : Dev nD) (E : Set ℕ) (X : Vec F S24x1920x256 .bf16) (D : Vec F S6144x256 .bf16) (A : Vec F S1920x256 .f32)
    (C : Vec F S6144x256 .fp8e4m3) (S : Vec F S48x256 .f32) (W : Vec F S6144x256 .bf16) (K : PUnit → sProp 𝕄) :
    iprop((owns (c : Thread nD τ) arg1 fullShare X ∗ owns (c : Thread nD τ) arg2 fullShare D ∗ owns (c : Thread nD τ) arg3 fullShare A
          ∗ owns (c : Thread nD τ) arg4 fullShare C ∗ owns (c : Thread nD τ) arg5 fullShare S ∗ owns (c : Thread nD τ) arg6 fullShare W)
        ∗ (iprop(owns (c : Thread nD τ) arg1 fullShare X ∗ owns (c : Thread nD τ) arg2 fullShare D
            ∗ owns (c : Thread nD τ) arg3 fullShare (dwOf X (hatsAll D)) ∗ owns (c : Thread nD τ) arg4 fullShare (codesAll D)
            ∗ owns (c : Thread nD τ) arg5 fullShare (scalesAll D) ∗ owns (c : Thread nD τ) arg6 fullShare (hatsAll D)) -∗ K ⟨⟩))
      ⊢ wp frame (wpE (defs₀ (F := F)) 𝒱₀ c none) E
          (cc1_dw (F := F) i arg1 harg1 arg2 harg2 arg3 harg3 arg4 harg4 arg5 harg5 arg6 harg6) K := by
  rw [cc1_dw_eq]
  unfold dwBody
  iintro ⟨⟨H1, H2, H3, H4, H5, H6⟩, Hk⟩
  iapply (groups_wp arg2 arg4 harg4 arg5 arg6 harg6 c E D _ K (List.finRange 48) C S W)
  rw [foldl_rows, foldl_rows, foldl_srow, Pipeline.chain_cons]
  unfold heldQ
  isplitl [H2 H4 H5 H6]
  · isplitl [H2]; · iexact H2
    isplitl [H4]; · iexact H4
    isplitl [H5]; · iexact H5
    iexact H6
  iintro ⟨H2, H4, H5, H6⟩
  iapply (dotFirst_wp arg1 arg3 arg6 c E X A (byGroup (hatsG D)) _ K)
  unfold heldD
  isplitl [H1 H3 H6]
  · isplitl [H1]; · iexact H1
    isplitl [H3]; · iexact H3
    iexact H6
  iintro ⟨H1, H3, H6⟩
  iapply (dots_wp arg1 arg3 arg6 c E X (byGroup (hatsG D)) K (List.finRange 23) _)
  rw [show (fun A (k : Fin 23) => accOf X (byGroup (hatsG D)) A k.succ) = _ from funext fun A => funext fun k => accOf_eq X (byGroup (hatsG D)) A k.succ]
  rw [Mem.put_full (s := S1920x256) inb_S1920x256_S1920x256_0_0]
  unfold heldD
  isplitl [H1 H3 H6]
  · isplitl [H1]; · iexact H1
    isplitl [H3]; · iexact H3
    iexact H6
  iintro ⟨H1, H3, H6⟩
  iapply Hk
  isplitl [H1]; · iexact H1
  isplitl [H2]; · iexact H2
  isplitl [H3]; · iexact H3
  isplitl [H4]; · iexact H4
  isplitl [H5]; · iexact H5
  iexact H6

end Cert.Kernel.Own

end
-- ==== Proof.QuantBodyB.lean ====
/- The first kernel's body as what it is: one step per 128-token group of its block. -/
module

public import proofs.«01_k».proof.Proof.Gen.Kernel
public import proofs.«01_k».proof.Proof.Quant
public import Idealize.ShloMosaic.Lib.Pipeline.Regions

@[expose] public section

set_option maxRecDepth 16384

noncomputable section

namespace Cert.Kernel.Own

open Idealize.ShloMosaic Idealize.SL.Sem Cert.Kernel.Gen

variable {F : FTy → Type} [FloatOps F]

/-- The quantiser's shape facts at 1920 channels. -/
theorem qx : Quant.Facts 1920 :=
  ⟨shapeCasts_S128x1920_S128x1920, reduces_S128x1920_S1920, shapeCasts_S1920_S1x1920, broadcasts_S1x1920_S128x1920⟩

/-- Group `g`'s 128 rows of a 256-row block. -/
theorem inb_xrows (g : Fin 2) : ∀ a, (![128 * g.val, 0] : Fin 2 → Nat) a + S128x1920.size a ≤ S256x1920.size a := by
  have := g.isLt
  intro a
  match a with
  | 0 => show 128 * g.val + 128 ≤ 256; omega
  | 1 => show 0 + 1920 ≤ 1920; omega

abbrev xrows (g : Fin 2) : Rect S256x1920 := Rect.unit (s := S256x1920) ![128 * g.val, 0] S128x1920.size (inb_xrows g)

theorem xpacked8 : ∀ g : Fin 2, (xrows g).PackedRows (EltTy.packing .fp8e4m3) := by decide +kernel

/-- Group `g`'s row of the scales. -/
theorem inb_xsrow (g : Fin 2) : ∀ a, (![0, g.val, 0] : Fin 3 → Nat) a + S1x1x1920.size a ≤ S1x2x1920.size a := by
  have := g.isLt
  intro a
  match a with
  | 0 => show 0 + 1 ≤ 1; omega
  | 1 => show g.val + 1 ≤ 2; omega
  | 2 => show 0 + 1920 ≤ 1920; omega

abbrev xsrow (g : Fin 2) : Rect S1x2x1920 := Rect.unit (s := S1x2x1920) ![0, g.val, 0] S1x1x1920.size (inb_xsrow g)

/-- Group `g`'s 128 columns of the transposed widened codes. -/
theorem inb_xcols (g : Fin 2) : ∀ a, (![0, 0, 128 * g.val] : Fin 3 → Nat) a + S1x1920x128.size a ≤ S1x1920x256.size a := by
  have := g.isLt
  intro a
  match a with
  | 0 => show 0 + 1 ≤ 1; omega
  | 1 => show 0 + 1920 ≤ 1920; omega
  | 2 => show 128 * g.val + 128 ≤ 256; omega

abbrev xcols (g : Fin 2) : Rect S1x1920x256 := Rect.unit (s := S1x1920x256) ![0, 0, 128 * g.val] S1x1920x128.size (inb_xcols g)

theorem xpacked16 : ∀ g : Fin 2, (xcols g).PackedRows (EltTy.packing .bf16) := by decide +kernel

/-- What the step stores of the scales. -/
def xscaleOf (v : Vec F S128x1920 .bf16) : FVec F S1x1x1920 .f32 :=
  shapeCast S1x1x1920 (Quant.scaleOf qx v) shapeCasts_S1x1920_S1x1x1920

/-- What the step stores of the widened codes. -/
def xhatOf (v : Vec F S128x1920 .bf16) : FVec F S1x1920x128 .bf16 :=
  shapeCast S1x1920x128 (transpose S1920x128 [1, 0] (Quant.hatOf qx v) transposes_S128x1920_p1_0_S1920x128)
    shapeCasts_S1920x128_S1x1920x128

/-- One group of `x`: its codes, its scales and its widened codes, transposed, stored. -/
def xStep (arg1 : Memref sig .tc .vmem S256x1920 .bf16) (arg2 : Memref sig .tc .vmem S256x1920 .fp8e4m3) (harg2 : arg2.IsWhole)
    (arg3 : Memref sig .tc .vmem S1x2x1920 .f32) (arg4 : Memref sig .tc .vmem S1x1920x256 .bf16) (harg4 : arg4.IsWhole) (g : Fin 2) :
    Prog (TpuEff nD τ sig (Elt F) Λ₀ .tc) PUnit := do
  let v : Vec F S128x1920 .bf16 ← Prog.lift (.load arg1 (xrows g).toLoadRect (View.loadsAt_vmem h_S128x1920))
  let _ : Vec F S128x1920 .fp8e4m3 ← Prog.lift (.load arg2 (xrows g).toLoadRect (View.loadsAt_vmem h_S128x1920))
  Prog.lift (.store arg2 (xrows g) (Quant.codesOf qx v) Finset.univ
    (View.stores_vmem h_S128x1920 (harg2.storeExact_slice rfl _ (xpacked8 g)) (fun _ => rfl)) (.inl rfl))
  let _ : Vec F S1x1x1920 .f32 ← Prog.lift (.load arg3 (xsrow g).toLoadRect (View.loadsAt_vmem h_S1x1x1920))
  Prog.lift (.store arg3 (xsrow g) (xscaleOf v) Finset.univ (View.stores_vmem_bits_univ h_S1x1x1920 rfl) (.inl rfl))
  let _ : Vec F S1x1920x128 .bf16 ← Prog.lift (.load arg4 (xcols g).toLoadRect (View.loadsAt_vmem h_S1x1920x128))
  Prog.lift (.store arg4 (xcols g) (xhatOf v) Finset.univ
    (View.stores_vmem h_S1x1920x128 (harg4.storeExact_slice rfl _ (xpacked16 g)) (fun _ => rfl)) (.inl rfl))

/-- The body of the first kernel. -/
def xBody (arg1 : Memref sig .tc .vmem S256x1920 .bf16) (arg2 : Memref sig .tc .vmem S256x1920 .fp8e4m3) (harg2 : arg2.IsWhole)
    (arg3 : Memref sig .tc .vmem S1x2x1920 .f32) (arg4 : Memref sig .tc .vmem S1x1920x256 .bf16) (harg4 : arg4.IsWhole) :
    Prog (TpuEff nD τ sig (Elt F) Λ₀ .tc) PUnit :=
  Pipeline.chain ((List.finRange 2).map (xStep arg1 arg2 harg2 arg3 arg4 harg4))

theorem cc0_quant_x_eq (i : grid0.Coords) (arg1 : Memref sig .tc .vmem S256x1920 .bf16) (harg1 : arg1.IsWhole)
    (arg2 : Memref sig .tc .vmem S256x1920 .fp8e4m3) (harg2 : arg2.IsWhole) (arg3 : Memref sig .tc .vmem S1x2x1920 .f32) (harg3 : arg3.IsWhole)
    (arg4 : Memref sig .tc .vmem S1x1920x256 .bf16) (harg4 : arg4.IsWhole) :
    cc0_quant_x (F := F) i arg1 harg1 arg2 harg2 arg3 harg3 arg4 harg4 = xBody arg1 arg2 harg2 arg3 arg4 harg4 := by
  chain_rfl

end Cert.Kernel.Own

end
-- ==== Proof.QuantRunB.lean ====
/- What the first kernel's body leaves in its buffers: the codes, the scales and the transposed widened codes of its two
   groups. -/
module

public import proofs.«01_k».proof.Proof.QuantBodyB
public import proofs.«01_k».proof.Proof.DwRunB

@[expose] public section

set_option maxRecDepth 16384

noncomputable section

namespace Cert.Kernel.Own

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (arg1 : Memref sig .tc .vmem S256x1920 .bf16) (arg2 : Memref sig .tc .vmem S256x1920 .fp8e4m3) (harg2 : arg2.IsWhole)
  (arg3 : Memref sig .tc .vmem S1x2x1920 .f32) (arg4 : Memref sig .tc .vmem S1x1920x256 .bf16) (harg4 : arg4.IsWhole)

/-- What is held of `x`'s block and of the three buffers filled from it. -/
def heldX (c : Dev nD) (D : Vec F S256x1920 .bf16) (C : Vec F S256x1920 .fp8e4m3) (S : Vec F S1x2x1920 .f32)
    (W : Vec F S1x1920x256 .bf16) : sProp 𝕄 :=
  iprop(owns (c : Thread nD τ) arg1 fullShare D ∗ owns (c : Thread nD τ) arg2 fullShare C
    ∗ owns (c : Thread nD τ) arg3 fullShare S ∗ owns (c : Thread nD τ) arg4 fullShare W)

/-- Group `g`'s stored codes, scales and widened codes. -/
abbrev xcodesG (D : Vec F S256x1920 .bf16) (g : Fin 2) : Vec F S128x1920 .fp8e4m3 := Quant.codesOf qx (Mem.sub (xrows g) D)
abbrev xscalesG (D : Vec F S256x1920 .bf16) (g : Fin 2) : Vec F S1x1x1920 .f32 := xscaleOf (Mem.sub (xrows g) D)
abbrev xhatsG (D : Vec F S256x1920 .bf16) (g : Fin 2) : Vec F S1x1920x128 .bf16 := xhatOf (Mem.sub (xrows g) D)

theorem xStep_wp (c : Dev nD) (E : Set ℕ) (D C S W) (g : Fin 2) (rest : Prog (TpuEff nD τ sig (Elt F) Λ₀ .tc) PUnit)
    (K : PUnit → sProp 𝕄) :
    iprop(heldX arg1 arg2 arg3 arg4 c D C S W
        ∗ (heldX arg1 arg2 arg3 arg4 c D (Mem.put (xrows g) (xcodesG D g) C) (Mem.put (xsrow g) (xscalesG D g) S)
              (Mem.put (xcols g) (xhatsG D g) W)
            -∗ wp frame (wpE (defs₀ (F := F)) 𝒱₀ c none) E rest K))
      ⊢ wp frame (wpE (defs₀ (F := F)) 𝒱₀ c none) E
          (xStep arg1 arg2 harg2 arg3 arg4 harg4 g >>= fun _ => rest) K := by
  unfold xStep heldX
  simp only [Prog.lift, Prog.bind_op, Prog.bind_ret]
  iintro ⟨⟨H1, H2, H3, H4⟩, Hk⟩
  iapply (Mem.load (defs := defs₀ (F := F)) 𝒱₀ (c : Thread nD τ) none E) $$ H1
  iintro H1
  iapply (Mem.load (defs := defs₀ (F := F)) 𝒱₀ (c : Thread nD τ) none E) $$ H2
  iintro H2
  iapply (Mem.store (defs := defs₀ (F := F)) 𝒱₀ (c : Thread nD τ) none E) $$ H2
  iintro H2
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply (Mem.load (defs := defs₀ (F := F)) 𝒱₀ (c : Thread nD τ) none E) $$ H4
  iintro H4
  iapply (Mem.store (defs := defs₀ (F := F)) 𝒱₀ (c : Thread nD τ) none E) $$ H4
  iintro H4
  iapply Hk
  isplitl [H1]; · iexact H1
  isplitl [H2]; · iexact H2
  isplitl [H3]; · iexact H3
  iexact H4

/-- The groups of a list, one after the other. -/
theorem xSteps_wp (c : Dev nD) (E : Set ℕ) (D) (K : PUnit → sProp 𝕄) :
    ∀ (l : List (Fin 2)) (C S W),
    iprop(heldX arg1 arg2 arg3 arg4 c D C S W
        ∗ (heldX arg1 arg2 arg3 arg4 c D (l.foldl (fun C g => Mem.put (xrows g) (xcodesG D g) C) C)
              (l.foldl (fun S g => Mem.put (xsrow g) (xscalesG D g) S) S) (l.foldl (fun W g => Mem.put (xcols g) (xhatsG D g) W) W)
            -∗ K ⟨⟩))
      ⊢ wp frame (wpE (defs₀ (F := F)) 𝒱₀ c none) E (Pipeline.chain (l.map (xStep arg1 arg2 harg2 arg3 arg4 harg4))) K
  | [], C, S, W => by
      rw [List.map_nil, Pipeline.chain_nil]
      show _ ⊢ wp frame (wpE (defs₀ (F := F)) 𝒱₀ c none) E (Prog.ret PUnit.unit) K
      iintro ⟨H, Hk⟩
      iapply le_wp_ret
      iapply Hk
      iexact H
  | g :: l, C, S, W => by
      rw [List.map_cons, Pipeline.chain_cons, List.foldl_cons, List.foldl_cons, List.foldl_cons]
      iintro ⟨H, Hk⟩
      iapply (xStep_wp arg1 arg2 harg2 arg3 arg4 harg4 c E D C S W g)
      isplitl [H]; · iexact H
      iintro H
      iapply (xSteps_wp c E D K l)
      isplitl [H]; · iexact H
      iexact Hk

/-- All the codes, scales and transposed widened codes of a block, group by group. -/
def xcodesAll (D : Vec F S256x1920 .bf16) : Vec F S256x1920 .fp8e4m3 := fun y =>
  xcodesG D ⟨(y 0).val / 128, Nat.div_lt_of_lt_mul (y 0).isLt⟩ (ix2 (n0 := 128) (n1 := 1920) ⟨(y 0).val % 128, Nat.mod_lt _ (by decide)⟩ (y 1))
def xscalesAll (D : Vec F S256x1920 .bf16) : Vec F S1x2x1920 .f32 := fun y =>
  xscalesG D (y 1) (ix3 (n0 := 1) (n1 := 1) (n2 := 1920) 0 0 (y 2))
def xhatsAll (D : Vec F S256x1920 .bf16) : Vec F S1x1920x256 .bf16 := fun y =>
  xhatsG D ⟨(y 2).val / 128, Nat.div_lt_of_lt_mul (y 2).isLt⟩
    (ix3 (n0 := 1) (n1 := 1920) (n2 := 128) 0 (y 1) ⟨(y 2).val % 128, Nat.mod_lt _ (by decide)⟩)

theorem idx3_lt {d : Fin 3 → Nat} (x : (⟨3, d⟩ : Shape).Idx) : (x 0).val < d 0 ∧ (x 1).val < d 1 ∧ (x 2).val < d 2 :=
  ⟨(x 0).isLt, (x 1).isLt, (x 2).isLt⟩

theorem foldl_xrows (D : Vec F S256x1920 .bf16) (X : Vec F S256x1920 .fp8e4m3) :
    (List.finRange 2).foldl (fun S g => Mem.put (xrows g) (xcodesG D g) S) X = xcodesAll D := by
  refine Mem.foldl_put_eq (fun g => xrows g) (xcodesG D) _ (fun g x => ?_) _ X
    fun y => ⟨⟨(y 0).val / 128, Nat.div_lt_of_lt_mul (y 0).isLt⟩, List.mem_finRange _,
      ix2 (n0 := 128) (n1 := 1920) ⟨(y 0).val % 128, Nat.mod_lt _ (by decide)⟩ (y 1), ?_⟩
  · have hx := idx2_lt0 (n0 := 128) (n1 := 1920) x
    have he : ((xrows g).emb x 0).val = 128 * g.val + (x 0).val := by show 128 * g.val + 1 * (x 0).val = _; omega
    unfold xcodesAll
    have h0 : (⟨((xrows g).emb x 0).val / 128, Nat.div_lt_of_lt_mul ((xrows g).emb x 0).isLt⟩ : Fin 2) = g := Fin.ext (by
      show ((xrows g).emb x 0).val / 128 = _; rw [he]; omega)
    rw [h0]
    refine congrArg (xcodesG D g) (Mem.ext2 ?_ ?_)
    · show (x 0).val = ((xrows g).emb x 0).val % 128
      rw [he]; omega
    · show (x 1).val = 0 + 1 * (x 1).val; omega
  · exact Mem.ext2 (by show 128 * ((y 0).val / 128) + 1 * ((y 0).val % 128) = _; omega) (by show 0 + 1 * (y 1).val = _; omega)

theorem foldl_xsrow (D : Vec F S256x1920 .bf16) (X : Vec F S1x2x1920 .f32) :
    (List.finRange 2).foldl (fun S g => Mem.put (xsrow g) (xscalesG D g) S) X = xscalesAll D := by
  refine Mem.foldl_put_eq (fun g => xsrow g) (xscalesG D) _ (fun g x => ?_) _ X
    fun y => ⟨y 1, List.mem_finRange _, ix3 (n0 := 1) (n1 := 1) (n2 := 1920) 0 0 (y 2), ?_⟩
  · obtain ⟨hx0, hx1, -⟩ := idx3_lt (d := ![1, 1, 1920]) x
    have hx0 : (x 0).val < 1 := hx0
    have hx1 : (x 1).val < 1 := hx1
    unfold xscalesAll
    have h0 : (xsrow g).emb x 1 = g := Fin.ext (by show g.val + 1 * (x 1).val = _; omega)
    rw [h0]
    refine congrArg (xscalesG D g) (Mem.ext3 ?_ ?_ ?_)
    · show (x 0).val = 0; omega
    · show (x 1).val = 0; omega
    · show (x 2).val = 0 + 1 * (x 2).val; omega
  · have hy : (y 0).val < 1 := (y 0).isLt
    exact Mem.ext3 (by show 0 + 1 * 0 = (y 0).val; omega) (by show (y 1).val + 1 * 0 = _; omega) (by show 0 + 1 * (y 2).val = _; omega)

theorem foldl_xcols (D : Vec F S256x1920 .bf16) (X : Vec F S1x1920x256 .bf16) :
    (List.finRange 2).foldl (fun S g => Mem.put (xcols g) (xhatsG D g) S) X = xhatsAll D := by
  refine Mem.foldl_put_eq (fun g => xcols g) (xhatsG D) _ (fun g x => ?_) _ X
    fun y => ⟨⟨(y 2).val / 128, Nat.div_lt_of_lt_mul (y 2).isLt⟩, List.mem_finRange _,
      ix3 (n0 := 1) (n1 := 1920) (n2 := 128) 0 (y 1) ⟨(y 2).val % 128, Nat.mod_lt _ (by decide)⟩, ?_⟩
  · obtain ⟨hx0, -, hx2⟩ := idx3_lt (d := ![1, 1920, 128]) x
    have hx0 : (x 0).val < 1 := hx0
    have hx2 : (x 2).val < 128 := hx2
    have he : ((xcols g).emb x 2).val = 128 * g.val + (x 2).val := by show 128 * g.val + 1 * (x 2).val = _; omega
    unfold xhatsAll
    have h0 : (⟨((xcols g).emb x 2).val / 128, Nat.div_lt_of_lt_mul ((xcols g).emb x 2).isLt⟩ : Fin 2) = g := Fin.ext (by
      show ((xcols g).emb x 2).val / 128 = _; rw [he]; omega)
    rw [h0]
    refine congrArg (xhatsG D g) (Mem.ext3 ?_ ?_ ?_)
    · show (x 0).val = 0; omega
    · show (x 1).val = 0 + 1 * (x 1).val; omega
    · show (x 2).val = ((xcols g).emb x 2).val % 128
      rw [he]; omega
  · have hy : (y 0).val < 1 := (y 0).isLt
    exact Mem.ext3 (by show 0 + 1 * 0 = (y 0).val; omega) (by show 0 + 1 * (y 1).val = _; omega)
      (by show 128 * ((y 2).val / 128) + 1 * ((y 2).val % 128) = _; omega)

/-- The body: the block's codes, scales and transposed widened codes. -/
theorem quant_wp (i : grid0.Coords) (harg1 : arg1.IsWhole) (harg3 : arg3.IsWhole)
    (c : Dev nD) (E : Set ℕ) (D : Vec F S256x1920 .bf16)
    (C : Vec F S256x1920 .fp8e4m3) (S : Vec F S1x2x1920 .f32) (W : Vec F S1x1920x256 .bf16) (K : PUnit → sProp 𝕄) :
    iprop((owns (c : Thread nD τ) arg1 fullShare D ∗ owns (c : Thread nD τ) arg2 fullShare C ∗ owns (c : Thread nD τ) arg3 fullShare S
          ∗ owns (c : Thread nD τ) arg4 fullShare W)
        ∗ (iprop(owns (c : Thread nD τ) arg1 fullShare D ∗ owns (c : Thread nD τ) arg2 fullShare (xcodesAll D)
            ∗ owns (c : Thread nD τ) arg3 fullShare (xscalesAll D) ∗ owns (c : Thread nD τ) arg4 fullShare (xhatsAll D)) -∗ K ⟨⟩))
      ⊢ wp frame (wpE (defs₀ (F := F)) 𝒱₀ c none) E
          (cc0_quant_x (F := F) i arg1 harg1 arg2 harg2 arg3 harg3 arg4 harg4) K := by
  rw [cc0_quant_x_eq]
  unfold xBody
  have h := xSteps_wp arg1 arg2 harg2 arg3 arg4 harg4 c E D K (List.finRange 2) C S W
  rw [foldl_xrows, foldl_xsrow, foldl_xcols] at h
  exact h

end Cert.Kernel.Own

end
-- ==== Proof.DatB.lean ====
/- The two regions' proof data: what the staging buffers hold after the body at each point, and the bodies' obligations. -/
module

public import proofs.«01_k».proof.Proof.DwRunB
public import proofs.«01_k».proof.Proof.QuantRunB
public import proofs.«01_k».proof.Proof.Gen.Kernel.Points
public import proofs.«01_k».proof.Proof.Gen.Kernel.Regions
public import Idealize.ShloMosaic.Lib.Pipeline.ValueKit

@[expose] public section

set_option maxRecDepth 16384

noncomputable section

namespace Cert.Kernel.Own

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx

variable {F : FTy → Type} [FloatOps F]

local notation "𝕄" => MT nD τ sig Unit (Elt F) ℕ (UR sig nD τ) ℕ

variable (V : Valuation τ sig (Elt F)) (c : Dev nD)

/-! ## The first region -/

/-- The block of `x` at a point. -/
def xBlk (t : Fin cfg0.N) : Vec F S256x1920 .bf16 := (win0_0.blk t).view.read (Elt F) (V main_v0)

/-- The proof data of the first region entered at `V`. -/
def dat0 : Dat τ (Elt F) Unit ℕ (UR sig nD τ) ℕ cfg0 c where
  A w := V (Proc.devRef .tc (Pipeline.arrRef spec0 w))
  after w t := match w with
    | ⟨0, _⟩ => xBlk V t
    | ⟨1, _⟩ => xcodesAll (xBlk V t)
    | ⟨2, _⟩ => xscalesAll (xBlk V t)
    | ⟨3, _⟩ => xhatsAll (xBlk V t)
  Φ _ := iprop(Pipeline.scopedRest (Ix := Unit) (Name := ℕ) (U := UR sig nD τ) (Lvl := ℕ) (Val := Elt F) spec0 c)
  q _ := fullShare
  owed _ := 0

theorem before0_0 (t : Fin cfg0.N) (d) : (dat0 V c).before (0 : Fin 4) t d = xBlk V t := by
  unfold Dat.before; rw [if_pos (fetch0_0 t)]; rfl

theorem body0 : BodyObligation (dat0 V c) (defs₀ (F := F)) 𝒱₀ () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0]
  iapply (quant_wp (F := F) (st0_0 t) (st0_1 t) (hstage0_1 ((cfg0.slots t 1).cast nbuf0_1)) (st0_2 t) (st0_3 t)
    (hstage0_3 ((cfg0.slots t 3).cast nbuf0_3)) (grid0.coords t) (hstage0_0 ((cfg0.slots t 0).cast nbuf0_0))
    (hstage0_2 ((cfg0.slots t 2).cast nbuf0_2)) c Set.univ (xBlk V t) ((dat0 V c).before (1 : Fin 4) t d1)
    ((dat0 V c).before (2 : Fin 4) t d2) ((dat0 V c).before (3 : Fin 4) t d3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The second region -/

/-- The transposed widened codes of `x`, whole. -/
def xtOf : Vec F S24x1920x256 .bf16 := V main_v2_2

/-- The block of `dy` at a point as the fetch reads it: the columns inside the array. -/
def dyBlk (t : Fin cfg1.N) : (win1_1.xblock (grid1.coords t)).Idx → Elt F .bf16 := (win1_1.blk t).view.read (Elt F) (V main_v1)

/-- The staging buffer after the fetch, over what it held. -/
@[irreducible] def dyFill (t : Fin cfg1.N) (d : Vec F S6144x256 .bf16) : Vec F S6144x256 .bf16 := win1_1.fill (grid1.coords t) d (dyBlk V t)

/-- The block of `dy` filled out with zeros past the array's end. -/
@[irreducible] def dyWhole (t : Fin cfg1.N) : Vec F S6144x256 .bf16 := dyFill V t fun _ => Scalar.ofBits .bf16 0#16

/-- The proof data of the second region entered at `V`. -/
def dat1 : Dat τ (Elt F) Unit ℕ (UR sig nD τ) ℕ cfg1 c where
  A w := V (Proc.devRef .tc (Pipeline.arrRef spec1 w))
  after w t := match w with
    | ⟨0, _⟩ => xtOf V
    | ⟨1, _⟩ => dyWhole V t
    | ⟨2, _⟩ => dwOf (xtOf V) (hatsAll (dyWhole V t))
    | ⟨3, _⟩ => codesAll (dyWhole V t)
    | ⟨4, _⟩ => scalesAll (dyWhole V t)
  Φ _ := iprop(Pipeline.scopedRest (Ix := Unit) (Name := ℕ) (U := UR sig nD τ) (Lvl := ℕ) (Val := Elt F) spec1 c)
  q _ := fullShare
  owed _ := 0

theorem xt_read (t : Fin cfg1.N) : (win1_0.blk t).view.read (Elt F) (V main_v2_2) = xtOf V := by
  funext y
  have e : win1_0.index t = ![0, 0, 0] := rfl
  refine congrArg (V main_v2_2) (Mem.ext3 (a := (win1_0.blk t).view.emb y) (b := y) ?_ ?_ ?_) <;> blk_simp [e]

theorem before1_0 (t : Fin cfg1.N) (d) : (dat1 V c).before (0 : Fin 5) t d = xtOf V := by
  unfold Dat.before
  by_cases h : (cfg1.win (0 : Fin 5)).fetch t = true
  · rw [if_pos h]; exact xt_read V t
  · rw [if_neg h]
    have ht : ¬t.val = 0 := fun e => h ((fetch1_0 t).mpr (by rw [e]))
    have hf : ∀ s, (cfg1.win (0 : Fin 5)).flush s = false := fun _ => rfl
    rw [if_neg ht]
    dsimp only
    rw [hf, if_neg Bool.false_ne_true]; rfl
theorem before1_1 (t : Fin cfg1.N) (d) : (dat1 V c).before (1 : Fin 5) t d = dyFill V t d := by
  unfold Dat.before; rw [if_pos (fetch1_1 t)]; unfold dyFill; rfl

theorem after1_1 (t : Fin cfg1.N) : (dat1 V c).after (1 : Fin 5) t = dyWhole V t := rfl

theorem dy_cut (t : Fin cfg1.N) : (win1 1).cut (grid1.coords t) (dyWhole V t) = dyBlk V t := by
  unfold dyWhole dyFill
  exact win1_1.cut_fill _ _ _

/-- What the staging buffer of `dy` holds is the block it is to hold, filled out with what it held. -/
theorem dy_back (t : Fin cfg1.N) (d : Vec F S6144x256 .bf16) :
    (win1 1).fill (grid1.coords t) d ((win1 1).cut (grid1.coords t) ((dat1 V c).after (1 : Fin 5) t)) = dyFill V t d := by
  rw [after1_1, dy_cut]; unfold dyFill; rfl

/-- A scoped buffer of the core, holding something. -/
abbrev rest1At (r : Ref sig .tc) : sProp 𝕄 := iprop(∃ f : Buf (Elt F) ((c : Thread nD τ).loc r), ((c : Thread nD τ).loc r) ↦{fullShare} f)

/-- The scoped buffers that the second region does not stage: the scratch, and the rest. -/
theorem rest1 : ∃ R : sProp 𝕄, (Pipeline.scopedRest (Ix := Unit) (Name := ℕ) (U := UR sig nD τ) (Lvl := ℕ) (Val := Elt F) spec1 c : sProp 𝕄) ⊣⊢
    iprop(R ∗ (∃ f, owns (c : Thread nD τ) (Memref.whole cc1_scratch0) fullShare f)) := by
  rw [scopedRest1_eq]
  simp only [owns_whole]
  refine ⟨iprop(rest1At c cc0_stg0_0 ∗ rest1At c cc0_stg0_1 ∗ rest1At c cc0_stg1_0 ∗ rest1At c cc0_stg1_1 ∗ rest1At c cc0_stg2_0 ∗ rest1At c cc0_stg2_1 ∗ rest1At c cc0_stg3_0 ∗ rest1At c cc0_stg3_1), ?_, ?_⟩
  · iintro ⟨H0, H1, H2, H3, H4, H5, H6, H7, H8⟩
    isplitr [H8]; swap; · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨H0, H1, H2, H3, H4, H5, H6, H7⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The windows whose contents after the body are left open: the results. -/
def open1 : Fin 5 → Bool := fun | 0 => false | 1 => false | _ => true

theorem body1_open : BodyObligationLoose (dat1 V c) (defs₀ (F := F)) 𝒱₀ () Set.univ open1 := fun t => by
  obtain ⟨R, hR, hR'⟩ := rest1 (F := F) c
  rw [bigSep_W1, bigSep_W1]
  simp only [open1]
  rw [show (dat1 V c).Φ t.succ = (dat1 V c).Φ t.castSucc from rfl,
    show (dat1 V c).owesAt () t.succ = (dat1 V c).owesAt () t.castSucc from rfl,
    show (dat1 V c).Φ t.castSucc = Pipeline.scopedRest (Ix := Unit) (Name := ℕ) (U := UR sig nD τ) (Lvl := ℕ) (Val := Elt F) spec1 c from rfl]
  iintro ⟨HΦ, Ho, ⟨%d0, H0⟩, ⟨%d1, H1⟩, ⟨%d2, H2⟩, ⟨%d3, H3⟩, ⟨%d4, H4⟩⟩
  ihave HΦ := hR $$ HΦ
  icases HΦ with ⟨HR, ⟨%f, H6⟩⟩
  rw [before1_0 V c t d0, before1_1 V c t d1]
  iapply (dw_wp (F := F) (st1_0 t) (st1_1 t) (st1_2 t) (st1_3 t) (hstage1_3 ((cfg1.slots t 3).cast nbuf1_3)) (st1_4 t)
    (Memref.whole cc1_scratch0) (Memref.isWhole_whole _) (grid1.coords t) (hstage1_0 ((cfg1.slots t 0).cast nbuf1_0))
    (hstage1_1 ((cfg1.slots t 1).cast nbuf1_1)) (hstage1_2 ((cfg1.slots t 2).cast nbuf1_2)) (hstage1_4 ((cfg1.slots t 4).cast nbuf1_4))
    c Set.univ (xtOf V) (dyFill V t d1) d2 d3 d4 f _)
  isplitl [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  isplitl [HR H6]
  · iapply hR'
    isplitl [HR]; · iexact HR
    iexists _; iexact H6
  isplitl [Ho]; · iexact Ho
  isplitl [H0]; · iexact H0
  isplitl [H1]
  · iexists d1
    rw [dy_back]
    iexact H1
  isplitl [H2]; · iexists _; iexact H2
  isplitl [H3]; · iexists _; iexact H3
  iexists _; iexact H4

end Cert.Kernel.Own

end
-- ==== Proof.RegF.lean ====
/- A kernel region whose kernel keeps nothing between points, entered and left over a set of held buffers, some of its
   windows left open: after it the windows kept hold what the proof data say, and every other buffer is as before. -/
module

public import Idealize.ShloMosaic.Lib.Pipeline.RegionArraysF
public import Idealize.ShloMosaic.Lib.Pipeline.RegionArraysS

@[expose] public section

noncomputable section

namespace Cert.RegF

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P]
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (fg : (q : P) → Fin (pin pcs a q).W → Bool)

/-- What is known of the buffers after the region: the windows kept at the proof data's contents, every buffer that is no
    window's array as at the entry. -/
def Left (c : Dev nD) (W V : Valuation τ sig Val) : Prop :=
  (∀ w, fg p w = false → V (Proc.devRef .tc (arrRef (pin pcs a p).spec w)) = (pdats p c).arrAt w (pin pcs a p).N)
    ∧ ∀ d, d ∉ arrRefs (τ := τ) (pcs p).spec → V d = W d

/-- The state between two segments: the unscoped buffers at contents that satisfy `G`, nothing owed. -/
def Between (G : Valuation τ sig Val → Prop) (c : Dev nD) : sProp 𝕄 :=
  iprop(∃ V, ⌜G V⌝ ∗ StableHlo.held (c.tc : Thread nD τ) (ucRefs τ sig) V ∗ ∃ Wd, owes (c : Thread nD τ) (0 : CellTallies nD τ sig Ix) Wd)

omit [Fintype P] [Preorder Lvl] in
/-- Contents that are known are known to be those. -/
theorem Between.elim {G : Valuation τ sig Val → Prop} {c : Dev nD} {W : Valuation τ sig Val} (h : ∀ V, G V → V = W) :
    (Between G c : sProp 𝕄) ⊢ iprop(StableHlo.held (c.tc : Thread nD τ) (ucRefs τ sig) W ∗ ∃ Wd, owes (c : Thread nD τ) (0 : CellTallies nD τ sig Ix) Wd) := by
  unfold Between
  iintro ⟨%V, %hV, H⟩
  rw [h V hV]
  iexact H

omit [Fintype P] [Preorder Lvl] in
theorem Between.mono {G G' : Valuation τ sig Val → Prop} {c : Dev nD} (h : ∀ V, G V → G' V) : (Between G c : sProp 𝕄) ⊢ Between G' c := by
  unfold Between
  iintro ⟨%V, %hV, H⟩
  iexists V
  isplitr; · ipureintro; exact h V hV
  iexact H

/-- Contents at the windows' arrays, put over a valuation. -/
def over (c : Dev nD) (W : Valuation τ sig Val)
    (A : (w : Fin (pin pcs a p).W) → Buf Val (((pin pcs a p).win w).arr.view.loc (c.tc : Thread nD τ))) : Valuation τ sig Val := fun b =>
  open Classical in
  if h : ∃ w, b = Proc.devRef .tc (arrRef (pin pcs a p).spec w) then
    cast (congrArg (fun b' : DevRef τ sig => b'.ty.Contents Val) h.choose_spec.symm) (A h.choose)
  else W b

omit [Fintype P] in
theorem cast_over (c : Dev nD) (A : (w : Fin (pin pcs a p).W) → Buf Val (((pin pcs a p).win w).arr.view.loc (c.tc : Thread nD τ)))
    {w w' : Fin (pin pcs a p).W} (hw : w' = w)
    (e : (Proc.devRef .tc (arrRef (pin pcs a p).spec w') : DevRef τ sig).ty.Contents Val = (Proc.devRef .tc (arrRef (pin pcs a p).spec w) : DevRef τ sig).ty.Contents Val) :
    cast e (A w') = A w := by
  subst hw; rfl

theorem exists_over (kit : PLaunchFacts (nD := nD) (τ := τ) pcs p) (c : Dev nD) (W : Valuation τ sig Val)
    (A : (w : Fin (pin pcs a p).W) → Buf Val (((pin pcs a p).win w).arr.view.loc (c.tc : Thread nD τ))) :
    ∃ V : Valuation τ sig Val, (∀ w, A w = V (Proc.devRef .tc (arrRef (pin pcs a p).spec w)))
      ∧ ∀ d, d ∉ arrRefs (τ := τ) (pcs p).spec → V d = W d := by
  refine ⟨over pcs a p c W A, fun w => ?_, fun d hd => ?_⟩
  · have h : ∃ w', (Proc.devRef .tc (arrRef (pin pcs a p).spec w) : DevRef τ sig) = Proc.devRef .tc (arrRef (pin pcs a p).spec w') := ⟨w, rfl⟩
    have hw : h.choose = w := (kit.win.arr_inj (Proc.devRef_injective _ h.choose_spec)).symm
    unfold over
    rw [dif_pos h]
    exact (cast_over pcs a p c A hw _).symm
  · unfold over
    rw [dif_neg]
    rintro ⟨w, rfl⟩
    exact hd (Finset.mem_map.mpr ⟨_, Finset.mem_image.mpr ⟨w, Finset.mem_univ _, rfl⟩, rfl⟩)

/-- The region's record. -/
def reg [∀ e, Nonempty (Val e)] (kit : PLaunchFacts (nD := nD) (τ := τ) pcs p) (hK : (pcs p).pre.K = 0)
    (hbody : ∀ c, BodyObligationLoose (pdats p c) defs₀ 𝒱₀ ι Set.univ (fg p))
    (howed : ∀ c t, (pdats p c).owed t = 0) (hrec : ∀ c, (pdats p c).recorded 0 = Set.univ)
    (hshare : ∀ c w, (pdats p c).share w = fullShare)
    (hΦ : ∀ c t, (scopedRest (pin pcs a p).spec c : sProp 𝕄) = (pdats p c).Φ t)
    (W : Dev nD → Valuation τ sig Val)
    (hW : ∀ c w, (pdats p c).arrAt w 0 = W c (Proc.devRef .tc (arrRef (pin pcs a p).spec w))) :
    RDat.RegionSeg pcs a (toRsF pcs a pdats fg) ι defs₀ 𝒱₀ L lv p where
  win := kit.to₀.win
  block_pos := kit.to₀.block_pos
  stage_whole := kit.to₀.stage_whole
  K := PEmpty
  osem k := k.elim
  ho := OwnSemFacts.none _
  hbody c := (hbody c).toRForget
  hwaits := RDat.hwaits_of_owed_zero _ _ _ _ L lv p howed
  pre c := iprop(StableHlo.held (c.tc : Thread nD τ) (ucRefs τ sig) (W c) ∗ ∃ Wd, owes (c : Thread nD τ) (0 : CellTallies nD τ sig Ix) Wd)
  post c := Between (Left pcs a pdats p fg c (W c)) c
  X _ := iprop(emp)
  Y _ := iprop(emp)
  Z c := StableHlo.held (c.tc : Thread nD τ) (ucRefs τ sig \ arrRefs (pcs p).spec) (W c)
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [prefHeld_of_none _ hK, StableHlo.held_sub_split (c.tc : Thread nD τ) (arrRefs_sub_ucRefs (pcs p).spec kit.win.arr_unscoped) (W c),
      ← arrays_held pcs a pdats p kit c (hshare c) ((pdats p c).arrAt · 0) (W c) (hW c)]
    iintro ⟨⟨⟨Ha, Hr⟩, HO⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ scopedRest (pin pcs a p).spec c from by iintro ⟨-, -, Hr⟩; iexact Hr).trans (Entails.of_eq (hΦ c 0))
  hout c := (Entails.of_eq (hΦ c _).symm).trans (by
    rw [ownSems0_none]
    iintro Hr
    isplitr; · iempintro
    isplitr; · iempintro
    iexact Hr)
  hexit c := by
    show iprop(((pdats p c).toRForget (fg p)).arraysAt (pin pcs a p).N ∗ (pdats p c).owesAt ι (Fin.last (pin pcs a p).N) ∗ _ ∗ _) ⊢ _
    iintro ⟨Ha, HO, -, Hr⟩
    ihave Ha := ((pdats p c).arraysAt_forget (fg p) (pin pcs a p).N) $$ Ha
    icases Ha with ⟨%A, %hA, Ha⟩
    obtain ⟨V, hV, hoff⟩ := exists_over pcs a p kit c (W c) A
    imodintro
    unfold Between
    iexists V
    isplitr; · ipureintro; exact ⟨fun w hw => (hV w).symm.trans (hA w hw), hoff⟩
    ihave Ha := (Entails.of_eq (arrays_held pcs a pdats p kit c (hshare c) A V hV)) $$ Ha
    rw [StableHlo.held_sub_split (c.tc : Thread nD τ) (arrRefs_sub_ucRefs (pcs p).spec kit.win.arr_unscoped) V,
      StableHlo.held_congr (c.tc : Thread nD τ) (S := ucRefs τ sig \ arrRefs (pcs p).spec) (V := V) (V' := W c)
        fun d hd => hoff d (Finset.mem_sdiff.mp hd).2]
    isplitl [Ha Hr]
    · isplitl [Ha]; · iexact Ha
      iexact Hr
    unfold Dat.owesAt owesWithin
    rw [howed c (Fin.last _)]
    icases HO with ⟨%Wd, -, HO⟩; iexists Wd; iexact HO

set_option backward.isDefEq.respectTransparency.types false in
/-- A host stretch from buffers at contents that satisfy `G`, to the contents it computes of some such. -/
def host (ops : List (HloOp τ sig Val)) (hS : ∀ op ∈ ops, op.bufs ⊆ ucRefs τ sig) (hf : ∀ op ∈ ops, op.fresh = ∅)
    (G : Dev nD → Valuation τ sig Val → Prop) : HostSeg (Ix := Ix) (Name := Name) (U := U) pcs defs₀ 𝒱₀ L lv where
  prog := StableHlo.seq ops
  pre c := Between (G c) c
  post c := Between (fun V' => ∃ V, G c V ∧ V' = StableHlo.after ops V) c
  run c {β} k K := by
    unfold Between
    iintro ⟨Hk, Hbd, ⟨%V, %hV, Hh, HR⟩, -⟩
    have hseq := StableHlo.wp_seq (defs := Pipeline.defs pcs defs₀) (Variants.lift 𝒱₀) none Set.univ c (ucRefs τ sig) k (K := K) ops hS hf V
    iapply hseq $$ [Hbd Hh]
    · isplitl [Hbd] <;> iassumption
    iintro ⟨Hbd, Hh⟩
    iapply Hk
    isplitl [Hbd]; · iexact Hbd
    iexists _
    isplitr; · ipureintro; exact ⟨V, hV, rfl⟩
    isplitl [Hh] <;> iassumption

end Cert.RegF

end
-- ==== Proof.RunB.lean ====
/- The program's run: from any memory every execution ends with the unscoped buffers at what the last host stretch computes
   of contents that agree with the second region's proof data on the windows kept. -/
module

public import proofs.«01_k».proof.Proof.DatB
public import proofs.«01_k».proof.Proof.RegF

@[expose] public section

set_option maxRecDepth 16384

noncomputable section

namespace Cert.Kernel.Own

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat HostSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the first region. -/
def VB (c : Dev nD) : Valuation τ sig (Elt F) := afterRegion (dat0 (V1 m c) c) (V1 m c)

/-- The two regions' proof data. -/
def dats : (p : Fin 2) → (c : Dev nD) → Dat τ (Elt F) Unit ℕ (UR sig nD τ) ℕ (cfgs p) c
  | 0 => fun c => dat0 (V1 m c) c
  | 1 => fun c => dat1 (VB m c) c

/-- The windows left open: none of the first region's. -/
def fg (f : Fin 5 → Bool) : (q : Fin 2) → Fin (Pipeline.pin (pcfgs (F := F)) adm q).W → Bool
  | 0 => fun _ => false
  | 1 => f

abbrev Lv : GSem nD τ sig → Finset Unit := fun _ => ∅
abbrev lv : GSem nD τ sig → Unit → ℕ := fun _ _ => 0

theorem kit0 : Pipeline.PLaunchFacts (nD := nD) (τ := τ) (pcfgs (F := F)) 0 := launch0.toP
theorem kit1 : Pipeline.PLaunchFacts (nD := nD) (τ := τ) (pcfgs (F := F)) 1 := launch1.toP

theorem hb0 (f : Fin 5 → Bool) (c : Dev nD) : BodyObligationLoose (dats m 0 c) (defs₀ (F := F)) 𝒱₀ () Set.univ (fg (F := F) f 0) :=
  (body0 (V1 m c) c).loose

theorem owed0 (p : Fin 2) (c : Dev nD) (t) : (dats m p c).owed t = 0 := by
  match p with
  | 0 => rfl
  | 1 => rfl

theorem recorded0 (p : Fin 2) (c : Dev nD) : (dats m p c).recorded 0 = Set.univ := by
  match p with
  | 0 => rfl
  | 1 => rfl

theorem share0 (p : Fin 2) (c : Dev nD) (w) : (dats m p c).share w = fullShare := by
  match p with
  | 0 => exact (dats m 0 c).share_full (fun _ => rfl) w
  | 1 => exact (dats m 1 c).share_full (fun _ => rfl) w

theorem entry0 (c : Dev nD) (w) : (dats m 0 c).arrAt w 0 = V1 m c (Proc.devRef .tc (Pipeline.arrRef spec0 w)) := rfl
theorem entry1 (c : Dev nD) (w) : (dats m 1 c).arrAt w 0 = VB m c (Proc.devRef .tc (Pipeline.arrRef spec1 w)) := rfl

attribute [local irreducible] Pipeline.scopedRest in
theorem inv (p : Fin 2) (c : Dev nD) (t) : (Pipeline.scopedRest (Pipeline.pin (pcfgs (F := F)) adm p).spec c : sProp 𝕄) = (dats m p c).Φ t := by
  match p with
  | 0 => rfl
  | 1 => rfl

def reg0 (f : Fin 5 → Bool) : RDat.RegionSeg (pcfgs (F := F)) adm (Pipeline.toRsF (pcfgs (F := F)) adm (dats m) (fg f)) () defs₀ 𝒱₀ Lv lv 0 :=
  RegF.reg (pcfgs (F := F)) adm (dats m) () defs₀ 𝒱₀ Lv lv 0 (fg f) kit0 rfl (hb0 m f) (owed0 m 0) (recorded0 m 0)
    (share0 m 0) (inv m 0) (V1 m) (entry0 m)

def reg1 (f : Fin 5 → Bool) (hb : ∀ c, BodyObligationLoose (dat1 (VB m c) c) (defs₀ (F := F)) 𝒱₀ () Set.univ f) :
    RDat.RegionSeg (pcfgs (F := F)) adm (Pipeline.toRsF (pcfgs (F := F)) adm (dats m) (fg f)) () defs₀ 𝒱₀ Lv lv 1 :=
  RegF.reg (pcfgs (F := F)) adm (dats m) () defs₀ 𝒱₀ Lv lv 1 (fg f) kit1 rfl hb (owed0 m 1) (recorded0 m 1)
    (share0 m 1) (inv m 1) (VB m) (entry1 m)

/-- What is known of the buffers after the second region. -/
def Left1 (f : Fin 5 → Bool) (c : Dev nD) (V : Valuation τ sig (Elt F)) : Prop :=
  RegF.Left (pcfgs (F := F)) adm (dats m) 1 (fg f) c (VB m c) V

def hseg0 : HostSeg (Ix := Unit) (Name := ℕ) (U := UR sig nD τ) (pcfgs (F := F)) defs₀ 𝒱₀ Lv lv :=
  RegF.host (pcfgs (F := F)) defs₀ 𝒱₀ Lv lv hostOps0 (fun op h => Pipeline.sub_ucRefs op ((List.forall_iff_forall_mem.mp hostOps0_sub) op h))
    (fun op h => (List.forall_iff_forall_mem.mp hostOps0_fresh) op h) fun c V => V = V0 m c

def hseg3 (f : Fin 5 → Bool) : HostSeg (Ix := Unit) (Name := ℕ) (U := UR sig nD τ) (pcfgs (F := F)) defs₀ 𝒱₀ Lv lv :=
  RegF.host (pcfgs (F := F)) defs₀ 𝒱₀ Lv lv hostOps2 (fun op h => Pipeline.sub_ucRefs op ((List.forall_iff_forall_mem.mp hostOps2_sub) op h))
    (fun op h => (List.forall_iff_forall_mem.mp hostOps2_fresh) op h) (Left1 m f)

abbrev segsF (f : Fin 5 → Bool) (hb : ∀ c, BodyObligationLoose (dat1 (VB m c) c) (defs₀ (F := F)) 𝒱₀ () Set.univ f) (_ : Dev nD) :
    List (RDat.Seg (pcfgs (F := F)) adm (Pipeline.toRsF (pcfgs (F := F)) adm (dats m) (fg f)) () defs₀ 𝒱₀ Lv lv) :=
  [.host (hseg0 m), .region (reg0 m f), .region (reg1 m f hb), .host (hseg3 m f)]

/-- Contents that agree with the first region's proof data are those after it. -/
theorem left0 (f : Fin 5 → Bool) (c : Dev nD) (V : Valuation τ sig (Elt F))
    (h : RegF.Left (pcfgs (F := F)) adm (dats m) 0 (fg f) c (V1 m c) V) : V = VB m c := by
  funext d
  by_cases hd : d ∈ Pipeline.arrRefs (τ := τ) spec0
  · obtain ⟨r, hr, rfl⟩ := Finset.mem_map.mp hd
    obtain ⟨w, -, rfl⟩ := Finset.mem_image.mp hr
    exact (h.1 w rfl).trans (Pipeline.afterRegion_arr (dat0 (V1 m c) c) (V1 m c) launch0.win.arr_inj w).symm
  · rw [h.2 d hd]
    exact (Pipeline.afterRegion_off (dat0 (V1 m c) c) (V1 m c) Finset.univ d (Finset.mem_sdiff.mpr ⟨Finset.mem_univ _, hd⟩)).symm

/-- What is known at the end. -/
def AtEnd (f : Fin 5 → Bool) (c : Dev nD) (s : MemSt nD τ sig (Elt F)) : Prop :=
  ∃ V, Left1 m f c V ∧ ∀ r : Ref sig .tc, r.isScoped = false → s.mem ((c.tc : Thread nD τ).loc r) = StableHlo.after hostOps2 V (Proc.devRef .tc r)

set_option backward.isDefEq.respectTransparency.types false in
theorem run_main (f : Fin 5 → Bool) (hb : ∀ c, BodyObligationLoose (dat1 (VB m c) c) (defs₀ (F := F)) 𝒱₀ () Set.univ f) :
    θ_run defs (onTc (τ := τ) (main (F := F))) ⟨m, fun _ => 0, ρ⟩ (fun r => (∀ c : Dev nD, AtEnd m f c r.2) ∧ r.2.sem = fun _ => 0) := by
  refine Pipeline.RDat.θ_run_regions_kit_dev_sems (pcfgs (F := F)) adm (Pipeline.toRsF (pcfgs (F := F)) adm (dats m) (fg f)) () cellOf_inj
    (emb₁ : Emb (UR sig nD τ) 𝕄) defs₀ 𝒱₀ Lv lv m ρ main (segsF m f hb)
    (fun c Q => by
      rewrite [main_chain c, Pipeline.RDat.Seg.run_eq_chain,
        show (segsF m f hb c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segsF, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => RegF.Between (fun V => V = V0 m c) c)
    (Tₙ := fun c => iprop(∃ V, ⌜∃ V', Left1 m f c V' ∧ V = StableHlo.after hostOps2 V'⌝ ∗ StableHlo.held (c : Thread nD τ) (Pipeline.ucRefs τ sig) V))
    (hch := fun c => ⟨.rfl, RegF.Between.elim (fun V hV => by obtain ⟨V', rfl, rfl⟩ := hV; rfl), RegF.Between.elim (left0 m f c), .rfl, ?_⟩)
    (hinit := ?_) (QY := AtEnd m f)
    (hfin := fun c s' => ?_) (hQ := fun _ h hz => ⟨h, funext fun g => hz g (.inr (regions_no_unscoped g.2))⟩)
  · show (RegF.Between _ c : sProp 𝕄) ⊢ _
    unfold RegF.Between
    iintro ⟨%V, %hV, Hh, HO⟩
    isplitl [Hh]
    · iexists V
      isplitr; · ipureintro; exact hV
      iexact Hh
    iexact HO
  · refine Pipeline.initEach Lv lv fun c => ?_
    unfold RegF.Between
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    iexists (V0 m c)
    isplitr; · ipureintro; rfl
    isplitl [Hh]; · iexact Hh
    iexists ∅; iexact HO
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      obtain ⟨V', hV', rfl⟩ := hV
      exact ⟨V', hV', fun r hr => h (Proc.devRef .tc r) (Finset.mem_filter.mpr ⟨StableHlo.devRef_mem_tcRefs r, fun h' => Bool.false_ne_true (hr.symm.trans h')⟩)⟩
    · iexact HSI

/-- A buffer that neither the host stretches nor the regions write ends as it began. -/
theorem AtEnd.kept {f : Fin 5 → Bool} {c : Dev nD} {s : MemSt nD τ sig (Elt F)} (h : AtEnd m f c s) (r : Ref sig .tc) (hr : r.isScoped = false)
    (h0 : r ∉ hostOps0_W) (h2 : r ∉ hostOps2_W) (ha : ∀ w, r ≠ Pipeline.arrRef spec0 w) (hb : ∀ w, r ≠ Pipeline.arrRef spec1 w) :
    s.mem ((c.tc : Thread nD τ).loc r) = m ((c.tc : Thread nD τ).loc r) := by
  obtain ⟨V, hV, hs⟩ := h
  have hw : ∀ {W : Nat} {gr : Nat} (win : Fin W → Pipeline.WinSpec sig gr), (∀ w, r ≠ Pipeline.arrRef win w) →
      (Proc.devRef .tc r : DevRef τ sig) ∉ Pipeline.arrRefs (τ := τ) win := by
    intro W gr win hne hm
    obtain ⟨r', hr', e⟩ := Finset.mem_map.mp hm
    obtain ⟨w, -, rfl⟩ := Finset.mem_image.mp hr'
    exact hne w (Proc.devRef_injective _ e).symm
  rw [hs r hr, StableHlo.after_of_writes_sub hostOps2 _ hostOps2_writes h2, hV.2 _ (hw spec1 hb)]
  exact (Pipeline.afterRegion_of_not_arr (dat0 (V1 m c) c) (V1 m c) ha).trans (StableHlo.after_of_writes_sub hostOps0 _ hostOps0_writes h0)

theorem AtEnd.args {f : Fin 5 → Bool} {c : Dev nD} {s : MemSt nD τ sig (Elt F)} (h : AtEnd m f c s) :
    s.mem ((c.tc : Thread nD τ).loc main_arg0) = m ((c.tc : Thread nD τ).loc main_arg0)
      ∧ s.mem ((c.tc : Thread nD τ).loc main_arg1) = m ((c.tc : Thread nD τ).loc main_arg1) :=
  ⟨h.kept m main_arg0 (by decide) (by decide) (by decide) (by decide) (by decide), h.kept m main_arg1 (by decide) (by decide) (by decide) (by decide) (by decide)⟩

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => (h.1 c).args m, h.2⟩) (run_main m ρ open1 fun c => body1_open (VB m c) c)

end Cert.Kernel.Own

end
-- ==== Proof.DwBodyI.lean ====
/- The second kernel's body as what it is: one step per 128-token group, then one product per 256 tokens. -/
module

public import proofs.«01_k».proof.Proof.Gen.KernelIdeal
public import proofs.«01_k».proof.Proof.Quant
public import Idealize.ShloMosaic.Lib.Pipeline.Regions

@[expose] public section

set_option maxRecDepth 16384

noncomputable section

namespace Cert.KernelIdeal.Own

open Idealize.ShloMosaic Idealize.SL.Sem Cert.KernelIdeal.Gen

variable {F : FTy → Type} [FloatOps F]

/-- The quantiser's shape facts at 256 channels. -/
theorem qdw : Quant.Facts 256 := ⟨shapeCasts_S128x256_S128x256, reduces_S128x256_S256, shapeCasts_S256_S1x256, broadcasts_S1x256_S128x256⟩

/-- Group `g`'s 128 rows of a 6144-row block. -/
theorem inb_rows (g : Fin 48) : ∀ a, (![128 * g.val, 0] : Fin 2 → Nat) a + S128x256.size a ≤ S6144x256.size a := by
  have := g.isLt
  intro a
  match a with
  | 0 => show 128 * g.val + 128 ≤ 6144; omega
  | 1 => show 0 + 256 ≤ 256; omega

abbrev rows (g : Fin 48) : Rect S6144x256 := Rect.unit (s := S6144x256) ![128 * g.val, 0] S128x256.size (inb_rows g)

theorem packed8 : ∀ g : Fin 48, (rows g).PackedRows (EltTy.packing .fp8e4m3) := by decide +kernel
theorem packed16 : ∀ g : Fin 48, (rows g).PackedRows (EltTy.packing .bf16) := by decide +kernel

/-- Group `g`'s row of the scales. -/
theorem inb_srow (g : Fin 48) : ∀ a, (![g.val, 0] : Fin 2 → Nat) a + S1x256.size a ≤ S48x256.size a := by
  have := g.isLt
  intro a
  match a with
  | 0 => show g.val + 1 ≤ 48; omega
  | 1 => show 0 + 256 ≤ 256; omega

abbrev srow (g : Fin 48) : Rect S48x256 := Rect.unit (s := S48x256) ![g.val, 0] S1x256.size (inb_srow g)

/-- Chunk `k` of the transposed widened codes of `x`. -/
theorem inb_xt (k : Fin 24) : ∀ a, (![k.val, 0, 0] : Fin 3 → Nat) a + S1x1920x256.size a ≤ S24x1920x256.size a := by
  have := k.isLt
  intro a
  match a with
  | 0 => show k.val + 1 ≤ 24; omega
  | 1 => show 0 + 1920 ≤ 1920; omega
  | 2 => show 0 + 256 ≤ 256; omega

abbrev xtRect (k : Fin 24) : Rect S24x1920x256 := Rect.unit (s := S24x1920x256) ![k.val, 0, 0] S1x1920x256.size (inb_xt k)

/-- Chunk `k` of the widened codes of `dy`. -/
theorem inb_chunk (k : Fin 24) : ∀ a, (![256 * k.val, 0] : Fin 2 → Nat) a + S256x256.size a ≤ S6144x256.size a := by
  have := k.isLt
  intro a
  match a with
  | 0 => show 256 * k.val + 256 ≤ 6144; omega
  | 1 => show 0 + 256 ≤ 256; omega

abbrev chunk (k : Fin 24) : Rect S6144x256 := Rect.unit (s := S6144x256) ![256 * k.val, 0] S256x256.size (inb_chunk k)

abbrev dwAll : Rect S1920x256 := Rect.unit (s := S1920x256) ![0, 0] S1920x256.size inb_S1920x256_S1920x256_0_0

/-- One group of `dy`: its codes, its scales and its widened codes stored. -/
def groupStep (arg2 : Memref sig .tc .vmem S6144x256 .bf16) (arg4 : Memref sig .tc .vmem S6144x256 .fp8e4m3) (harg4 : arg4.IsWhole)
    (arg5 : Memref sig .tc .vmem S48x256 .f32) (arg6 : Memref sig .tc .vmem S6144x256 .bf16) (harg6 : arg6.IsWhole) (g : Fin 48) :
    Prog (TpuEff nD τ sig (Elt F) Λ₀ .tc) PUnit := do
  let v : Vec F S128x256 .bf16 ← Prog.lift (.load arg2 (rows g).toLoadRect (View.loadsAt_vmem h_S128x256))
  let _ : Vec F S128x256 .fp8e4m3 ← Prog.lift (.load arg4 (rows g).toLoadRect (View.loadsAt_vmem h_S128x256))
  Prog.lift (.store arg4 (rows g) (Quant.codesOf qdw v) Finset.univ
    (View.stores_vmem h_S128x256 (harg4.storeExact_slice rfl _ (packed8 g)) (fun _ => rfl)) (.inl rfl))
  let _ : Vec F S1x256 .f32 ← Prog.lift (.load arg5 (srow g).toLoadRect (View.loadsAt_vmem h_S1x256))
  Prog.lift (.store arg5 (srow g) (Quant.scaleOf qdw v) Finset.univ (View.stores_vmem_bits_univ h_S1x256 rfl) (.inl rfl))
  let _ : Vec F S128x256 .bf16 ← Prog.lift (.load arg6 (rows g).toLoadRect (View.loadsAt_vmem h_S128x256))
  Prog.lift (.store arg6 (rows g) (shapeCast S128x256 (Quant.hatOf qdw v) shapeCasts_S128x256_S128x256) Finset.univ
    (View.stores_vmem h_S128x256 (harg6.storeExact_slice rfl _ (packed16 g)) (fun _ => rfl)) (.inl rfl))

/-- The product of one chunk of 256 tokens. -/
def prodOf (u : Vec F S1x1920x256 .bf16) (w : Vec F S256x256 .bf16) : FVec F S1920x256 .f32 :=
  matmul dot_S1920x256_S256x256_S1920x256_1_0_0_1_n_n none (shapeCast S1920x256 u shapeCasts_S1x1920x256_S1920x256) w
    (constant S1920x256 .f32 0x00000000#32)

/-- The first chunk's product, stored. -/
def dotFirst (arg1 : Memref sig .tc .vmem S24x1920x256 .bf16) (arg3 : Memref sig .tc .vmem S1920x256 .f32)
    (arg6 : Memref sig .tc .vmem S6144x256 .bf16) : Prog (TpuEff nD τ sig (Elt F) Λ₀ .tc) PUnit := do
  let u : Vec F S1x1920x256 .bf16 ← Prog.lift (.load arg1 (xtRect 0).toLoadRect (View.loadsAt_vmem h_S1x1920x256))
  let w : Vec F S256x256 .bf16 ← Prog.lift (.load arg6 (chunk 0).toLoadRect (View.loadsAt_vmem h_S256x256))
  let _ : Vec F S1920x256 .f32 ← Prog.lift (.load arg3 dwAll.toLoadRect (View.loadsAt_vmem h_S1920x256))
  Prog.lift (.store arg3 dwAll (prodOf u w) Finset.univ (View.stores_vmem_bits_univ h_S1920x256 rfl) (.inl rfl))

/-- A later chunk's product, added. -/
def dotStep (arg1 : Memref sig .tc .vmem S24x1920x256 .bf16) (arg3 : Memref sig .tc .vmem S1920x256 .f32)
    (arg6 : Memref sig .tc .vmem S6144x256 .bf16) (k : Fin 24) : Prog (TpuEff nD τ sig (Elt F) Λ₀ .tc) PUnit := do
  let u : Vec F S1x1920x256 .bf16 ← Prog.lift (.load arg1 (xtRect k).toLoadRect (View.loadsAt_vmem h_S1x1920x256))
  let w : Vec F S256x256 .bf16 ← Prog.lift (.load arg6 (chunk k).toLoadRect (View.loadsAt_vmem h_S256x256))
  let a : Vec F S1920x256 .f32 ← Prog.lift (.load arg3 dwAll.toLoadRect (View.loadsAt_vmem h_S1920x256))
  let _ : Vec F S1920x256 .f32 ← Prog.lift (.load arg3 dwAll.toLoadRect (View.loadsAt_vmem h_S1920x256))
  Prog.lift (.store arg3 dwAll (addf (shapeCast S1920x256 a shapeCasts_S1920x256_S1920x256) (prodOf u w)) Finset.univ
    (View.stores_vmem_bits_univ h_S1920x256 rfl) (.inl rfl))

/-- The body of the second kernel. -/
def dwBody (arg1 : Memref sig .tc .vmem S24x1920x256 .bf16) (arg2 : Memref sig .tc .vmem S6144x256 .bf16)
    (arg3 : Memref sig .tc .vmem S1920x256 .f32) (arg4 : Memref sig .tc .vmem S6144x256 .fp8e4m3) (harg4 : arg4.IsWhole)
    (arg5 : Memref sig .tc .vmem S48x256 .f32) (arg6 : Memref sig .tc .vmem S6144x256 .bf16) (harg6 : arg6.IsWhole) :
    Prog (TpuEff nD τ sig (Elt F) Λ₀ .tc) PUnit :=
  Pipeline.chain (((List.finRange 48).map (groupStep arg2 arg4 harg4 arg5 arg6 harg6)) ++
    dotFirst arg1 arg3 arg6 :: ((List.finRange 23).map fun k => dotStep arg1 arg3 arg6 k.succ))

theorem cc1_dw_eq (i : grid1.Coords) (arg1 : Memref sig .tc .vmem S24x1920x256 .bf16) (harg1 : arg1.IsWhole)
    (arg2 : Memref sig .tc .vmem S6144x256 .bf16) (harg2 : arg2.IsWhole) (arg3 : Memref sig .tc .vmem S1920x256 .f32) (harg3 : arg3.IsWhole)
    (arg4 : Memref sig .tc .vmem S6144x256 .fp8e4m3) (harg4 : arg4.IsWhole) (arg5 : Memref sig .tc .vmem S48x256 .f32) (harg5 : arg5.IsWhole)
    (arg6 : Memref sig .tc .vmem S6144x256 .bf16) (harg6 : arg6.IsWhole) :
    cc1_dw (F := F) i arg1 harg1 arg2 harg2 arg3 harg3 arg4 harg4 arg5 harg5 arg6 harg6
      = dwBody arg1 arg2 arg3 arg4 harg4 arg5 arg6 harg6 := by
  chain_rfl

end Cert.KernelIdeal.Own

end
-- ==== Proof.DwRunI.lean ====
/- What the second kernel's body leaves in its buffers: the codes, the scales and the widened codes of every group, and
   the sum of the chunks' products. -/
module

public import proofs.«01_k».proof.Proof.DwBodyI
public import proofs.«01_k».proof.Proof.Mem
public import proofs.«01_k».proof.Proof.Gen.KernelIdeal.Launch
public import Idealize.ShloMosaic.Lib.Pipeline.KitQuiescent
public import Idealize.ShloMosaic.Lib.Tactic
public import Idealize.ShloMosaic.Lib.ValueIdxCore
public import Idealize.ShloMosaic.Lib.Pipeline.Value

@[expose] public section

set_option maxRecDepth 16384

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The kernel's variants: none. -/
abbrev 𝒱₀ : Variants := Variants.none

variable (arg1 : Memref sig .tc .vmem S24x1920x256 .bf16) (arg2 : Memref sig .tc .vmem S6144x256 .bf16)
  (arg3 : Memref sig .tc .vmem S1920x256 .f32) (arg4 : Memref sig .tc .vmem S6144x256 .fp8e4m3) (harg4 : arg4.IsWhole)
  (arg5 : Memref sig .tc .vmem S48x256 .f32) (arg6 : Memref sig .tc .vmem S6144x256 .bf16) (harg6 : arg6.IsWhole)

/-- What is held of `dy`'s block and of the three buffers filled from it. -/
def heldQ (c : Dev nD) (D : Vec F S6144x256 .bf16) (C : Vec F S6144x256 .fp8e4m3) (S : Vec F S48x256 .f32)
    (W : Vec F S6144x256 .bf16) : sProp 𝕄 :=
  iprop(owns (c : Thread nD τ) arg2 fullShare D ∗ owns (c : Thread nD τ) arg4 fullShare C
    ∗ owns (c : Thread nD τ) arg5 fullShare S ∗ owns (c : Thread nD τ) arg6 fullShare W)

/-- Group `g`'s stored codes, scales and widened codes. -/
abbrev codesG (D : Vec F S6144x256 .bf16) (g : Fin 48) : Vec F S128x256 .fp8e4m3 := Quant.codesOf qdw (Mem.sub (rows g) D)
abbrev scalesG (D : Vec F S6144x256 .bf16) (g : Fin 48) : Vec F S1x256 .f32 := Quant.scaleOf qdw (Mem.sub (rows g) D)
abbrev hatsG (D : Vec F S6144x256 .bf16) (g : Fin 48) : Vec F S128x256 .bf16 :=
  shapeCast S128x256 (Quant.hatOf qdw (Mem.sub (rows g) D)) shapeCasts_S128x256_S128x256

theorem groupStep_wp (c : Dev nD) (E : Set ℕ) (D C S W) (g : Fin 48) (rest : Prog (TpuEff nD τ sig (Elt F) Λ₀ .tc) PUnit)
    (K : PUnit → sProp 𝕄) :
    iprop(heldQ arg2 arg4 arg5 arg6 c D C S W
        ∗ (heldQ arg2 arg4 arg5 arg6 c D (Mem.put (rows g) (codesG D g) C) (Mem.put (srow g) (scalesG D g) S)
              (Mem.put (rows g) (hatsG D g) W)
            -∗ wp frame (wpE (defs₀ (F := F)) 𝒱₀ c none) E rest K))
      ⊢ wp frame (wpE (defs₀ (F := F)) 𝒱₀ c none) E
          (groupStep arg2 arg4 harg4 arg5 arg6 harg6 g >>= fun _ => rest) K := by
  unfold groupStep heldQ
  simp only [Prog.lift, Prog.bind_op, Prog.bind_ret]
  iintro ⟨⟨H2, H4, H5, H6⟩, Hk⟩
  iapply (Mem.load (defs := defs₀ (F := F)) 𝒱₀ (c : Thread nD τ) none E) $$ H2
  iintro H2
  iapply (Mem.load (defs := defs₀ (F := F)) 𝒱₀ (c : Thread nD τ) none E) $$ H4
  iintro H4
  iapply (Mem.store (defs := defs₀ (F := F)) 𝒱₀ (c : Thread nD τ) none E) $$ H4
  iintro H4
  iapply (Mem.load (defs := defs₀ (F := F)) 𝒱₀ (c : Thread nD τ) none E) $$ H5
  iintro H5
  iapply (Mem.store (defs := defs₀ (F := F)) 𝒱₀ (c : Thread nD τ) none E) $$ H5
  iintro H5
  iapply (Mem.load (defs := defs₀ (F := F)) 𝒱₀ (c : Thread nD τ) none E) $$ H6
  iintro H6
  iapply (Mem.store (defs := defs₀ (F := F)) 𝒱₀ (c : Thread nD τ) none E) $$ H6
  iintro H6
  iapply Hk
  isplitl [H2]; · iexact H2
  isplitl [H4]; · iexact H4
  isplitl [H5]; · iexact H5
  iexact H6

/-- The groups of a list, one after the other. -/
theorem groups_wp (c : Dev nD) (E : Set ℕ) (D) (rest : List (Prog (TpuEff nD τ sig (Elt F) Λ₀ .tc) PUnit)) (K : PUnit → sProp 𝕄) :
    ∀ (l : List (Fin 48)) (C S W),
    iprop(heldQ arg2 arg4 arg5 arg6 c D C S W
        ∗ (heldQ arg2 arg4 arg5 arg6 c D (l.foldl (fun C g => Mem.put (rows g) (codesG D g) C) C)
              (l.foldl (fun S g => Mem.put (srow g) (scalesG D g) S) S) (l.foldl (fun W g => Mem.put (rows g) (hatsG D g) W) W)
            -∗ wp frame (wpE (defs₀ (F := F)) 𝒱₀ c none) E (Pipeline.chain rest) K))
      ⊢ wp frame (wpE (defs₀ (F := F)) 𝒱₀ c none) E
          (Pipeline.chain (l.map (groupStep arg2 arg4 harg4 arg5 arg6 harg6) ++ rest)) K
  | [], C, S, W => by
      iintro ⟨H, Hk⟩
      iapply Hk
      iexact H
  | g :: l, C, S, W => by
      rw [List.map_cons, List.cons_append, Pipeline.chain_cons, List.foldl_cons, List.foldl_cons, List.foldl_cons]
      iintro ⟨H, Hk⟩
      iapply (groupStep_wp arg2 arg4 harg4 arg5 arg6 harg6 c E D C S W g)
      isplitl [H]; · iexact H
      iintro H
      iapply (groups_wp c E D rest K l)
      isplitl [H]; · iexact H
      iexact Hk

/-- The sum after a later chunk, from the sum before it. -/
def accOf (X : Vec F S24x1920x256 .bf16) (W : Vec F S6144x256 .bf16) (A : Vec F S1920x256 .f32) (k : Fin 24) : Vec F S1920x256 .f32 :=
  Mem.put dwAll (addf (shapeCast S1920x256 (Mem.sub dwAll A) shapeCasts_S1920x256_S1920x256)
    (prodOf (Mem.sub (xtRect k) X) (Mem.sub (chunk k) W))) A

/-- What is held of the factors and of the sum. -/
def heldD (c : Dev nD) (X : Vec F S24x1920x256 .bf16) (A : Vec F S1920x256 .f32) (W : Vec F S6144x256 .bf16) : sProp 𝕄 :=
  iprop(owns (c : Thread nD τ) arg1 fullShare X ∗ owns (c : Thread nD τ) arg3 fullShare A
    ∗ owns (c : Thread nD τ) arg6 fullShare W)

theorem dotFirst_wp (c : Dev nD) (E : Set ℕ) (X A W) (rest : Prog (TpuEff nD τ sig (Elt F) Λ₀ .tc) PUnit) (K : PUnit → sProp 𝕄) :
    iprop(heldD arg1 arg3 arg6 c X A W
        ∗ (heldD arg1 arg3 arg6 c X (Mem.put dwAll (prodOf (Mem.sub (xtRect 0) X) (Mem.sub (chunk 0) W)) A) W
            -∗ wp frame (wpE (defs₀ (F := F)) 𝒱₀ c none) E rest K))
      ⊢ wp frame (wpE (defs₀ (F := F)) 𝒱₀ c none) E (dotFirst arg1 arg3 arg6 >>= fun _ => rest) K := by
  unfold dotFirst heldD
  simp only [Prog.lift, Prog.bind_op, Prog.bind_ret]
  iintro ⟨⟨H1, H3, H6⟩, Hk⟩
  iapply (Mem.load (defs := defs₀ (F := F)) 𝒱₀ (c : Thread nD τ) none E) $$ H1
  iintro H1
  iapply (Mem.load (defs := defs₀ (F := F)) 𝒱₀ (c : Thread nD τ) none E) $$ H6
  iintro H6
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply Hk
  isplitl [H1]; · iexact H1
  isplitl [H3]; · iexact H3
  iexact H6

theorem dotStep_wp (c : Dev nD) (E : Set ℕ) (X A W) (k : Fin 24) (rest : Prog (TpuEff nD τ sig (Elt F) Λ₀ .tc) PUnit) (K : PUnit → sProp 𝕄) :
    iprop(heldD arg1 arg3 arg6 c X A W
        ∗ (heldD arg1 arg3 arg6 c X (accOf X W A k) W
            -∗ wp frame (wpE (defs₀ (F := F)) 𝒱₀ c none) E rest K))
      ⊢ wp frame (wpE (defs₀ (F := F)) 𝒱₀ c none) E (dotStep arg1 arg3 arg6 k >>= fun _ => rest) K := by
  unfold dotStep heldD
  simp only [Prog.lift, Prog.bind_op, Prog.bind_ret]
  iintro ⟨⟨H1, H3, H6⟩, Hk⟩
  iapply (Mem.load (defs := defs₀ (F := F)) 𝒱₀ (c : Thread nD τ) none E) $$ H1
  iintro H1
  iapply (Mem.load (defs := defs₀ (F := F)) 𝒱₀ (c : Thread nD τ) none E) $$ H6
  iintro H6
  iapply (Mem.load (defs := defs₀ (F := F)) 𝒱₀ (c : Thread nD τ) none E) $$ H3
  iintro H3
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply Hk
  isplitl [H1]; · iexact H1
  isplitl [H3]; · iexact H3
  iexact H6

/-- The later chunks of a list, one after the other. -/
theorem dots_wp (c : Dev nD) (E : Set ℕ) (X W) (K : PUnit → sProp 𝕄) :
    ∀ (l : List (Fin 23)) (A),
    iprop(heldD arg1 arg3 arg6 c X A W
        ∗ (heldD arg1 arg3 arg6 c X (l.foldl (fun A k => accOf X W A k.succ) A) W -∗ K ⟨⟩))
      ⊢ wp frame (wpE (defs₀ (F := F)) 𝒱₀ c none) E (Pipeline.chain (l.map fun k => dotStep arg1 arg3 arg6 k.succ)) K
  | [], A => by
      rw [List.map_nil, Pipeline.chain_nil, List.foldl_nil]
      show _ ⊢ wp frame (wpE (defs₀ (F := F)) 𝒱₀ c none) E (Prog.ret PUnit.unit) K
      iintro ⟨H, Hk⟩
      iapply le_wp_ret
      iapply Hk
      iexact H
  | k :: l, A => by
      rw [List.map_cons, Pipeline.chain_cons, List.foldl_cons]
      iintro ⟨H, Hk⟩
      iapply (dotStep_wp arg1 arg3 arg6 c E X A W k.succ)
      isplitl [H]; · iexact H
      iintro H
      iapply (dots_wp c E X W K l)
      isplitl [H]; · iexact H
      iexact Hk

/-- The block's row `y` lies in group `y / 128`, at row `y % 128` of it. -/
def grp (y : S6144x256.Idx) : Fin 48 := ⟨(y 0).val / 128, Nat.div_lt_of_lt_mul (y 0).isLt⟩
def inGrp (y : S6144x256.Idx) : S128x256.Idx := ix2 (n0 := 128) (n1 := 256) ⟨(y 0).val % 128, Nat.mod_lt _ (by decide)⟩ (y 1)

theorem rows_emb0 (g : Fin 48) (x : S128x256.Idx) : ((rows g).emb x 0).val = 128 * g.val + (x 0).val := by
  show 128 * g.val + 1 * (x 0).val = _; omega
theorem rows_emb1 (g : Fin 48) (x : S128x256.Idx) : ((rows g).emb x 1).val = (x 1).val := by
  show 0 + 1 * (x 1).val = _; omega

theorem rows_grp (y : S6144x256.Idx) : (rows (grp y)).emb (inGrp y) = y :=
  Mem.ext2 ((rows_emb0 _ _).trans (by show 128 * ((y 0).val / 128) + (y 0).val % 128 = _; omega)) (rows_emb1 _ _)

theorem grp_rows (g : Fin 48) (x : S128x256.Idx) : grp ((rows g).emb x) = g := by
  have := idx2_lt0 x
  refine Fin.ext ?_
  show ((rows g).emb x 0).val / 128 = _
  rw [rows_emb0]; omega

theorem inGrp_rows (g : Fin 48) (x : S128x256.Idx) : inGrp ((rows g).emb x) = x := by
  have := idx2_lt0 x
  refine Mem.ext2 ?_ (rows_emb1 _ _)
  show ((rows g).emb x 0).val % 128 = _
  rw [rows_emb0]; omega

/-- All the codes, scales and widened codes of a block, group by group. -/
def byGroup {V : Type} (f : Fin 48 → S128x256.Idx → V) : S6144x256.Idx → V := fun y => f (grp y) (inGrp y)

theorem byGroup_rows {V : Type} (f : Fin 48 → S128x256.Idx → V) (g : Fin 48) (x : S128x256.Idx) :
    f g x = byGroup f ((rows g).emb x) := by
  show _ = f (grp _) (inGrp _)
  rw [grp_rows, inGrp_rows]

def codesAll (D : Vec F S6144x256 .bf16) : Vec F S6144x256 .fp8e4m3 := byGroup (codesG D)
def scalesAll (D : Vec F S6144x256 .bf16) : Vec F S48x256 .f32 := fun y => scalesG D (y 0) (ix2 (n0 := 1) (n1 := 256) 0 (y 1))
def hatsAll (D : Vec F S6144x256 .bf16) : Vec F S6144x256 .bf16 := byGroup (hatsG D)

theorem foldl_rows {V : Type} (f : Fin 48 → S128x256.Idx → V) (X : S6144x256.Idx → V) :
    (List.finRange 48).foldl (fun C g => Mem.put (rows g) (f g) C) X = byGroup f :=
  Mem.foldl_put_eq (fun g => rows g) f _ (byGroup_rows f) _ X fun y => ⟨grp y, List.mem_finRange _, inGrp y, rows_grp y⟩

theorem foldl_srow (D : Vec F S6144x256 .bf16) (X : Vec F S48x256 .f32) :
    (List.finRange 48).foldl (fun S g => Mem.put (srow g) (scalesG D g) S) X = scalesAll D := by
  refine Mem.foldl_put_eq (fun g => srow g) (scalesG D) _ (fun g x => ?_) _ X
    fun y => ⟨y 0, List.mem_finRange _, ix2 (n0 := 1) (n1 := 256) 0 (y 1), ?_⟩
  · have h0 : (srow g).emb x 0 = g := Fin.ext (by
      have := idx2_lt0 (n0 := 1) (n1 := 256) x
      show g.val + 1 * (x 0).val = _; omega)
    have h1 : ix2 (n0 := 1) (n1 := 256) 0 ((srow g).emb x 1) = x := Mem.ext2 (by
      have := idx2_lt0 (n0 := 1) (n1 := 256) x
      show 0 = (x 0).val; omega) (by show 0 + 1 * (x 1).val = _; omega)
    show _ = scalesG D _ _
    rw [h0, h1]
  · exact Mem.ext2 (by show (y 0).val + 1 * 0 = _; omega) (by show 0 + 1 * (y 1).val = _; omega)

/-- The sum of the chunks' products, in order. -/
def dwOf (X : Vec F S24x1920x256 .bf16) (W : Vec F S6144x256 .bf16) : Vec F S1920x256 .f32 :=
  (List.finRange 23).foldl (fun A k => addf A (prodOf (Mem.sub (xtRect k.succ) X) (Mem.sub (chunk k.succ) W)))
    (prodOf (Mem.sub (xtRect 0) X) (Mem.sub (chunk 0) W))

theorem accOf_eq (X : Vec F S24x1920x256 .bf16) (W : Vec F S6144x256 .bf16) (A : Vec F S1920x256 .f32) (k : Fin 24) :
    accOf X W A k = addf A (prodOf (Mem.sub (xtRect k) X) (Mem.sub (chunk k) W)) := by
  have h : shapeCast S1920x256 (Mem.sub dwAll A) shapeCasts_S1920x256_S1920x256 = A :=
    (shapeCast_self _ _).trans (Mem.sub_full (s := S1920x256) inb_S1920x256_S1920x256_0_0 A)
  exact (Mem.put_full (s := S1920x256) inb_S1920x256_S1920x256_0_0 _ A).trans
    (congrArg (fun B => addf B (prodOf (Mem.sub (xtRect k) X) (Mem.sub (chunk k) W))) h)

/-- The body: the block's codes, scales and widened codes, and the sum. -/
theorem dw_wp (i : grid1.Coords) (harg1 : arg1.IsWhole) (harg2 : arg2.IsWhole) (harg3 : arg3.IsWhole) (harg5 : arg5.IsWhole)
    (c : Dev nD) (E : Set ℕ) (X : Vec F S24x1920x256 .bf16) (D : Vec F S6144x256 .bf16) (A : Vec F S1920x256 .f32)
    (C : Vec F S6144x256 .fp8e4m3) (S : Vec F S48x256 .f32) (W : Vec F S6144x256 .bf16) (K : PUnit → sProp 𝕄) :
    iprop((owns (c : Thread nD τ) arg1 fullShare X ∗ owns (c : Thread nD τ) arg2 fullShare D ∗ owns (c : Thread nD τ) arg3 fullShare A
          ∗ owns (c : Thread nD τ) arg4 fullShare C ∗ owns (c : Thread nD τ) arg5 fullShare S ∗ owns (c : Thread nD τ) arg6 fullShare W)
        ∗ (iprop(owns (c : Thread nD τ) arg1 fullShare X ∗ owns (c : Thread nD τ) arg2 fullShare D
            ∗ owns (c : Thread nD τ) arg3 fullShare (dwOf X (hatsAll D)) ∗ owns (c : Thread nD τ) arg4 fullShare (codesAll D)
            ∗ owns (c : Thread nD τ) arg5 fullShare (scalesAll D) ∗ owns (c : Thread nD τ) arg6 fullShare (hatsAll D)) -∗ K ⟨⟩))
      ⊢ wp frame (wpE (defs₀ (F := F)) 𝒱₀ c none) E
          (cc1_dw (F := F) i arg1 harg1 arg2 harg2 arg3 harg3 arg4 harg4 arg5 harg5 arg6 harg6) K := by
  rw [cc1_dw_eq]
  unfold dwBody
  iintro ⟨⟨H1, H2, H3, H4, H5, H6⟩, Hk⟩
  iapply (groups_wp arg2 arg4 harg4 arg5 arg6 harg6 c E D _ K (List.finRange 48) C S W)
  rw [foldl_rows, foldl_rows, foldl_srow, Pipeline.chain_cons]
  unfold heldQ
  isplitl [H2 H4 H5 H6]
  · isplitl [H2]; · iexact H2
    isplitl [H4]; · iexact H4
    isplitl [H5]; · iexact H5
    iexact H6
  iintro ⟨H2, H4, H5, H6⟩
  iapply (dotFirst_wp arg1 arg3 arg6 c E X A (byGroup (hatsG D)) _ K)
  unfold heldD
  isplitl [H1 H3 H6]
  · isplitl [H1]; · iexact H1
    isplitl [H3]; · iexact H3
    iexact H6
  iintro ⟨H1, H3, H6⟩
  iapply (dots_wp arg1 arg3 arg6 c E X (byGroup (hatsG D)) K (List.finRange 23) _)
  rw [show (fun A (k : Fin 23) => accOf X (byGroup (hatsG D)) A k.succ) = _ from funext fun A => funext fun k => accOf_eq X (byGroup (hatsG D)) A k.succ]
  rw [Mem.put_full (s := S1920x256) inb_S1920x256_S1920x256_0_0]
  unfold heldD
  isplitl [H1 H3 H6]
  · isplitl [H1]; · iexact H1
    isplitl [H3]; · iexact H3
    iexact H6
  iintro ⟨H1, H3, H6⟩
  iapply Hk
  isplitl [H1]; · iexact H1
  isplitl [H2]; · iexact H2
  isplitl [H3]; · iexact H3
  isplitl [H4]; · iexact H4
  isplitl [H5]; · iexact H5
  iexact H6

end Cert.KernelIdeal.Own

end
-- ==== Proof.QuantBodyI.lean ====
/- The first kernel's body as what it is: one step per 128-token group of its block. -/
module

public import proofs.«01_k».proof.Proof.Gen.KernelIdeal
public import proofs.«01_k».proof.Proof.Quant
public import Idealize.ShloMosaic.Lib.Pipeline.Regions

@[expose] public section

set_option maxRecDepth 16384

noncomputable section

namespace Cert.KernelIdeal.Own

open Idealize.ShloMosaic Idealize.SL.Sem Cert.KernelIdeal.Gen

variable {F : FTy → Type} [FloatOps F]

/-- The quantiser's shape facts at 1920 channels. -/
theorem qx : Quant.Facts 1920 :=
  ⟨shapeCasts_S128x1920_S128x1920, reduces_S128x1920_S1920, shapeCasts_S1920_S1x1920, broadcasts_S1x1920_S128x1920⟩

/-- Group `g`'s 128 rows of a 256-row block. -/
theorem inb_xrows (g : Fin 2) : ∀ a, (![128 * g.val, 0] : Fin 2 → Nat) a + S128x1920.size a ≤ S256x1920.size a := by
  have := g.isLt
  intro a
  match a with
  | 0 => show 128 * g.val + 128 ≤ 256; omega
  | 1 => show 0 + 1920 ≤ 1920; omega

abbrev xrows (g : Fin 2) : Rect S256x1920 := Rect.unit (s := S256x1920) ![128 * g.val, 0] S128x1920.size (inb_xrows g)

theorem xpacked8 : ∀ g : Fin 2, (xrows g).PackedRows (EltTy.packing .fp8e4m3) := by decide +kernel

/-- Group `g`'s row of the scales. -/
theorem inb_xsrow (g : Fin 2) : ∀ a, (![0, g.val, 0] : Fin 3 → Nat) a + S1x1x1920.size a ≤ S1x2x1920.size a := by
  have := g.isLt
  intro a
  match a with
  | 0 => show 0 + 1 ≤ 1; omega
  | 1 => show g.val + 1 ≤ 2; omega
  | 2 => show 0 + 1920 ≤ 1920; omega

abbrev xsrow (g : Fin 2) : Rect S1x2x1920 := Rect.unit (s := S1x2x1920) ![0, g.val, 0] S1x1x1920.size (inb_xsrow g)

/-- Group `g`'s 128 columns of the transposed widened codes. -/
theorem inb_xcols (g : Fin 2) : ∀ a, (![0, 0, 128 * g.val] : Fin 3 → Nat) a + S1x1920x128.size a ≤ S1x1920x256.size a := by
  have := g.isLt
  intro a
  match a with
  | 0 => show 0 + 1 ≤ 1; omega
  | 1 => show 0 + 1920 ≤ 1920; omega
  | 2 => show 128 * g.val + 128 ≤ 256; omega

abbrev xcols (g : Fin 2) : Rect S1x1920x256 := Rect.unit (s := S1x1920x256) ![0, 0, 128 * g.val] S1x1920x128.size (inb_xcols g)

theorem xpacked16 : ∀ g : Fin 2, (xcols g).PackedRows (EltTy.packing .bf16) := by decide +kernel

/-- What the step stores of the scales. -/
def xscaleOf (v : Vec F S128x1920 .bf16) : FVec F S1x1x1920 .f32 :=
  shapeCast S1x1x1920 (Quant.scaleOf qx v) shapeCasts_S1x1920_S1x1x1920

/-- What the step stores of the widened codes. -/
def xhatOf (v : Vec F S128x1920 .bf16) : FVec F S1x1920x128 .bf16 :=
  shapeCast S1x1920x128 (transpose S1920x128 [1, 0] (Quant.hatOf qx v) transposes_S128x1920_p1_0_S1920x128)
    shapeCasts_S1920x128_S1x1920x128

/-- One group of `x`: its codes, its scales and its widened codes, transposed, stored. -/
def xStep (arg1 : Memref sig .tc .vmem S256x1920 .bf16) (arg2 : Memref sig .tc .vmem S256x1920 .fp8e4m3) (harg2 : arg2.IsWhole)
    (arg3 : Memref sig .tc .vmem S1x2x1920 .f32) (arg4 : Memref sig .tc .vmem S1x1920x256 .bf16) (harg4 : arg4.IsWhole) (g : Fin 2) :
    Prog (TpuEff nD τ sig (Elt F) Λ₀ .tc) PUnit := do
  let v : Vec F S128x1920 .bf16 ← Prog.lift (.load arg1 (xrows g).toLoadRect (View.loadsAt_vmem h_S128x1920))
  let _ : Vec F S128x1920 .fp8e4m3 ← Prog.lift (.load arg2 (xrows g).toLoadRect (View.loadsAt_vmem h_S128x1920))
  Prog.lift (.store arg2 (xrows g) (Quant.codesOf qx v) Finset.univ
    (View.stores_vmem h_S128x1920 (harg2.storeExact_slice rfl _ (xpacked8 g)) (fun _ => rfl)) (.inl rfl))
  let _ : Vec F S1x1x1920 .f32 ← Prog.lift (.load arg3 (xsrow g).toLoadRect (View.loadsAt_vmem h_S1x1x1920))
  Prog.lift (.store arg3 (xsrow g) (xscaleOf v) Finset.univ (View.stores_vmem_bits_univ h_S1x1x1920 rfl) (.inl rfl))
  let _ : Vec F S1x1920x128 .bf16 ← Prog.lift (.load arg4 (xcols g).toLoadRect (View.loadsAt_vmem h_S1x1920x128))
  Prog.lift (.store arg4 (xcols g) (xhatOf v) Finset.univ
    (View.stores_vmem h_S1x1920x128 (harg4.storeExact_slice rfl _ (xpacked16 g)) (fun _ => rfl)) (.inl rfl))

/-- The body of the first kernel. -/
def xBody (arg1 : Memref sig .tc .vmem S256x1920 .bf16) (arg2 : Memref sig .tc .vmem S256x1920 .fp8e4m3) (harg2 : arg2.IsWhole)
    (arg3 : Memref sig .tc .vmem S1x2x1920 .f32) (arg4 : Memref sig .tc .vmem S1x1920x256 .bf16) (harg4 : arg4.IsWhole) :
    Prog (TpuEff nD τ sig (Elt F) Λ₀ .tc) PUnit :=
  Pipeline.chain ((List.finRange 2).map (xStep arg1 arg2 harg2 arg3 arg4 harg4))

theorem cc0_quant_x_eq (i : grid0.Coords) (arg1 : Memref sig .tc .vmem S256x1920 .bf16) (harg1 : arg1.IsWhole)
    (arg2 : Memref sig .tc .vmem S256x1920 .fp8e4m3) (harg2 : arg2.IsWhole) (arg3 : Memref sig .tc .vmem S1x2x1920 .f32) (harg3 : arg3.IsWhole)
    (arg4 : Memref sig .tc .vmem S1x1920x256 .bf16) (harg4 : arg4.IsWhole) :
    cc0_quant_x (F := F) i arg1 harg1 arg2 harg2 arg3 harg3 arg4 harg4 = xBody arg1 arg2 harg2 arg3 arg4 harg4 := by
  chain_rfl

end Cert.KernelIdeal.Own

end
-- ==== Proof.QuantRunI.lean ====
/- What the first kernel's body leaves in its buffers: the codes, the scales and the transposed widened codes of its two
   groups. -/
module

public import proofs.«01_k».proof.Proof.QuantBodyI
public import proofs.«01_k».proof.Proof.DwRunI

@[expose] public section

set_option maxRecDepth 16384

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

variable (arg1 : Memref sig .tc .vmem S256x1920 .bf16) (arg2 : Memref sig .tc .vmem S256x1920 .fp8e4m3) (harg2 : arg2.IsWhole)
  (arg3 : Memref sig .tc .vmem S1x2x1920 .f32) (arg4 : Memref sig .tc .vmem S1x1920x256 .bf16) (harg4 : arg4.IsWhole)

/-- What is held of `x`'s block and of the three buffers filled from it. -/
def heldX (c : Dev nD) (D : Vec F S256x1920 .bf16) (C : Vec F S256x1920 .fp8e4m3) (S : Vec F S1x2x1920 .f32)
    (W : Vec F S1x1920x256 .bf16) : sProp 𝕄 :=
  iprop(owns (c : Thread nD τ) arg1 fullShare D ∗ owns (c : Thread nD τ) arg2 fullShare C
    ∗ owns (c : Thread nD τ) arg3 fullShare S ∗ owns (c : Thread nD τ) arg4 fullShare W)

/-- Group `g`'s stored codes, scales and widened codes. -/
abbrev xcodesG (D : Vec F S256x1920 .bf16) (g : Fin 2) : Vec F S128x1920 .fp8e4m3 := Quant.codesOf qx (Mem.sub (xrows g) D)
abbrev xscalesG (D : Vec F S256x1920 .bf16) (g : Fin 2) : Vec F S1x1x1920 .f32 := xscaleOf (Mem.sub (xrows g) D)
abbrev xhatsG (D : Vec F S256x1920 .bf16) (g : Fin 2) : Vec F S1x1920x128 .bf16 := xhatOf (Mem.sub (xrows g) D)

theorem xStep_wp (c : Dev nD) (E : Set ℕ) (D C S W) (g : Fin 2) (rest : Prog (TpuEff nD τ sig (Elt F) Λ₀ .tc) PUnit)
    (K : PUnit → sProp 𝕄) :
    iprop(heldX arg1 arg2 arg3 arg4 c D C S W
        ∗ (heldX arg1 arg2 arg3 arg4 c D (Mem.put (xrows g) (xcodesG D g) C) (Mem.put (xsrow g) (xscalesG D g) S)
              (Mem.put (xcols g) (xhatsG D g) W)
            -∗ wp frame (wpE (defs₀ (F := F)) 𝒱₀ c none) E rest K))
      ⊢ wp frame (wpE (defs₀ (F := F)) 𝒱₀ c none) E
          (xStep arg1 arg2 harg2 arg3 arg4 harg4 g >>= fun _ => rest) K := by
  unfold xStep heldX
  simp only [Prog.lift, Prog.bind_op, Prog.bind_ret]
  iintro ⟨⟨H1, H2, H3, H4⟩, Hk⟩
  iapply (Mem.load (defs := defs₀ (F := F)) 𝒱₀ (c : Thread nD τ) none E) $$ H1
  iintro H1
  iapply (Mem.load (defs := defs₀ (F := F)) 𝒱₀ (c : Thread nD τ) none E) $$ H2
  iintro H2
  iapply (Mem.store (defs := defs₀ (F := F)) 𝒱₀ (c : Thread nD τ) none E) $$ H2
  iintro H2
  iapply (Mem.load (defs := defs₀ (F := F)) 𝒱₀ (c : Thread nD τ) none E) $$ H3
  iintro H3
  iapply (Mem.store (defs := defs₀ (F := F)) 𝒱₀ (c : Thread nD τ) none E) $$ H3
  iintro H3
  iapply (Mem.load (defs := defs₀ (F := F)) 𝒱₀ (c : Thread nD τ) none E) $$ H4
  iintro H4
  iapply (Mem.store (defs := defs₀ (F := F)) 𝒱₀ (c : Thread nD τ) none E) $$ H4
  iintro H4
  iapply Hk
  isplitl [H1]; · iexact H1
  isplitl [H2]; · iexact H2
  isplitl [H3]; · iexact H3
  iexact H4

/-- The groups of a list, one after the other. -/
theorem xSteps_wp (c : Dev nD) (E : Set ℕ) (D) (K : PUnit → sProp 𝕄) :
    ∀ (l : List (Fin 2)) (C S W),
    iprop(heldX arg1 arg2 arg3 arg4 c D C S W
        ∗ (heldX arg1 arg2 arg3 arg4 c D (l.foldl (fun C g => Mem.put (xrows g) (xcodesG D g) C) C)
              (l.foldl (fun S g => Mem.put (xsrow g) (xscalesG D g) S) S) (l.foldl (fun W g => Mem.put (xcols g) (xhatsG D g) W) W)
            -∗ K ⟨⟩))
      ⊢ wp frame (wpE (defs₀ (F := F)) 𝒱₀ c none) E (Pipeline.chain (l.map (xStep arg1 arg2 harg2 arg3 arg4 harg4))) K
  | [], C, S, W => by
      rw [List.map_nil, Pipeline.chain_nil]
      show _ ⊢ wp frame (wpE (defs₀ (F := F)) 𝒱₀ c none) E (Prog.ret PUnit.unit) K
      iintro ⟨H, Hk⟩
      iapply le_wp_ret
      iapply Hk
      iexact H
  | g :: l, C, S, W => by
      rw [List.map_cons, Pipeline.chain_cons, List.foldl_cons, List.foldl_cons, List.foldl_cons]
      iintro ⟨H, Hk⟩
      iapply (xStep_wp arg1 arg2 harg2 arg3 arg4 harg4 c E D C S W g)
      isplitl [H]; · iexact H
      iintro H
      iapply (xSteps_wp c E D K l)
      isplitl [H]; · iexact H
      iexact Hk

/-- All the codes, scales and transposed widened codes of a block, group by group. -/
def xcodesAll (D : Vec F S256x1920 .bf16) : Vec F S256x1920 .fp8e4m3 := fun y =>
  xcodesG D ⟨(y 0).val / 128, Nat.div_lt_of_lt_mul (y 0).isLt⟩ (ix2 (n0 := 128) (n1 := 1920) ⟨(y 0).val % 128, Nat.mod_lt _ (by decide)⟩ (y 1))
def xscalesAll (D : Vec F S256x1920 .bf16) : Vec F S1x2x1920 .f32 := fun y =>
  xscalesG D (y 1) (ix3 (n0 := 1) (n1 := 1) (n2 := 1920) 0 0 (y 2))
def xhatsAll (D : Vec F S256x1920 .bf16) : Vec F S1x1920x256 .bf16 := fun y =>
  xhatsG D ⟨(y 2).val / 128, Nat.div_lt_of_lt_mul (y 2).isLt⟩
    (ix3 (n0 := 1) (n1 := 1920) (n2 := 128) 0 (y 1) ⟨(y 2).val % 128, Nat.mod_lt _ (by decide)⟩)

theorem idx3_lt {d : Fin 3 → Nat} (x : (⟨3, d⟩ : Shape).Idx) : (x 0).val < d 0 ∧ (x 1).val < d 1 ∧ (x 2).val < d 2 :=
  ⟨(x 0).isLt, (x 1).isLt, (x 2).isLt⟩

theorem foldl_xrows (D : Vec F S256x1920 .bf16) (X : Vec F S256x1920 .fp8e4m3) :
    (List.finRange 2).foldl (fun S g => Mem.put (xrows g) (xcodesG D g) S) X = xcodesAll D := by
  refine Mem.foldl_put_eq (fun g => xrows g) (xcodesG D) _ (fun g x => ?_) _ X
    fun y => ⟨⟨(y 0).val / 128, Nat.div_lt_of_lt_mul (y 0).isLt⟩, List.mem_finRange _,
      ix2 (n0 := 128) (n1 := 1920) ⟨(y 0).val % 128, Nat.mod_lt _ (by decide)⟩ (y 1), ?_⟩
  · have hx := idx2_lt0 (n0 := 128) (n1 := 1920) x
    have he : ((xrows g).emb x 0).val = 128 * g.val + (x 0).val := by show 128 * g.val + 1 * (x 0).val = _; omega
    unfold xcodesAll
    have h0 : (⟨((xrows g).emb x 0).val / 128, Nat.div_lt_of_lt_mul ((xrows g).emb x 0).isLt⟩ : Fin 2) = g := Fin.ext (by
      show ((xrows g).emb x 0).val / 128 = _; rw [he]; omega)
    rw [h0]
    refine congrArg (xcodesG D g) (Mem.ext2 ?_ ?_)
    · show (x 0).val = ((xrows g).emb x 0).val % 128
      rw [he]; omega
    · show (x 1).val = 0 + 1 * (x 1).val; omega
  · exact Mem.ext2 (by show 128 * ((y 0).val / 128) + 1 * ((y 0).val % 128) = _; omega) (by show 0 + 1 * (y 1).val = _; omega)

theorem foldl_xsrow (D : Vec F S256x1920 .bf16) (X : Vec F S1x2x1920 .f32) :
    (List.finRange 2).foldl (fun S g => Mem.put (xsrow g) (xscalesG D g) S) X = xscalesAll D := by
  refine Mem.foldl_put_eq (fun g => xsrow g) (xscalesG D) _ (fun g x => ?_) _ X
    fun y => ⟨y 1, List.mem_finRange _, ix3 (n0 := 1) (n1 := 1) (n2 := 1920) 0 0 (y 2), ?_⟩
  · obtain ⟨hx0, hx1, -⟩ := idx3_lt (d := ![1, 1, 1920]) x
    have hx0 : (x 0).val < 1 := hx0
    have hx1 : (x 1).val < 1 := hx1
    unfold xscalesAll
    have h0 : (xsrow g).emb x 1 = g := Fin.ext (by show g.val + 1 * (x 1).val = _; omega)
    rw [h0]
    refine congrArg (xscalesG D g) (Mem.ext3 ?_ ?_ ?_)
    · show (x 0).val = 0; omega
    · show (x 1).val = 0; omega
    · show (x 2).val = 0 + 1 * (x 2).val; omega
  · have hy : (y 0).val < 1 := (y 0).isLt
    exact Mem.ext3 (by show 0 + 1 * 0 = (y 0).val; omega) (by show (y 1).val + 1 * 0 = _; omega) (by show 0 + 1 * (y 2).val = _; omega)

theorem foldl_xcols (D : Vec F S256x1920 .bf16) (X : Vec F S1x1920x256 .bf16) :
    (List.finRange 2).foldl (fun S g => Mem.put (xcols g) (xhatsG D g) S) X = xhatsAll D := by
  refine Mem.foldl_put_eq (fun g => xcols g) (xhatsG D) _ (fun g x => ?_) _ X
    fun y => ⟨⟨(y 2).val / 128, Nat.div_lt_of_lt_mul (y 2).isLt⟩, List.mem_finRange _,
      ix3 (n0 := 1) (n1 := 1920) (n2 := 128) 0 (y 1) ⟨(y 2).val % 128, Nat.mod_lt _ (by decide)⟩, ?_⟩
  · obtain ⟨hx0, -, hx2⟩ := idx3_lt (d := ![1, 1920, 128]) x
    have hx0 : (x 0).val < 1 := hx0
    have hx2 : (x 2).val < 128 := hx2
    have he : ((xcols g).emb x 2).val = 128 * g.val + (x 2).val := by show 128 * g.val + 1 * (x 2).val = _; omega
    unfold xhatsAll
    have h0 : (⟨((xcols g).emb x 2).val / 128, Nat.div_lt_of_lt_mul ((xcols g).emb x 2).isLt⟩ : Fin 2) = g := Fin.ext (by
      show ((xcols g).emb x 2).val / 128 = _; rw [he]; omega)
    rw [h0]
    refine congrArg (xhatsG D g) (Mem.ext3 ?_ ?_ ?_)
    · show (x 0).val = 0; omega
    · show (x 1).val = 0 + 1 * (x 1).val; omega
    · show (x 2).val = ((xcols g).emb x 2).val % 128
      rw [he]; omega
  · have hy : (y 0).val < 1 := (y 0).isLt
    exact Mem.ext3 (by show 0 + 1 * 0 = (y 0).val; omega) (by show 0 + 1 * (y 1).val = _; omega)
      (by show 128 * ((y 2).val / 128) + 1 * ((y 2).val % 128) = _; omega)

/-- The body: the block's codes, scales and transposed widened codes. -/
theorem quant_wp (i : grid0.Coords) (harg1 : arg1.IsWhole) (harg3 : arg3.IsWhole)
    (c : Dev nD) (E : Set ℕ) (D : Vec F S256x1920 .bf16)
    (C : Vec F S256x1920 .fp8e4m3) (S : Vec F S1x2x1920 .f32) (W : Vec F S1x1920x256 .bf16) (K : PUnit → sProp 𝕄) :
    iprop((owns (c : Thread nD τ) arg1 fullShare D ∗ owns (c : Thread nD τ) arg2 fullShare C ∗ owns (c : Thread nD τ) arg3 fullShare S
          ∗ owns (c : Thread nD τ) arg4 fullShare W)
        ∗ (iprop(owns (c : Thread nD τ) arg1 fullShare D ∗ owns (c : Thread nD τ) arg2 fullShare (xcodesAll D)
            ∗ owns (c : Thread nD τ) arg3 fullShare (xscalesAll D) ∗ owns (c : Thread nD τ) arg4 fullShare (xhatsAll D)) -∗ K ⟨⟩))
      ⊢ wp frame (wpE (defs₀ (F := F)) 𝒱₀ c none) E
          (cc0_quant_x (F := F) i arg1 harg1 arg2 harg2 arg3 harg3 arg4 harg4) K := by
  rw [cc0_quant_x_eq]
  unfold xBody
  have h := xSteps_wp arg1 arg2 harg2 arg3 arg4 harg4 c E D K (List.finRange 2) C S W
  rw [foldl_xrows, foldl_xsrow, foldl_xcols] at h
  exact h

end Cert.KernelIdeal.Own

end
-- ==== Proof.DatI.lean ====
/- The two regions' proof data: what the staging buffers hold after the body at each point, and the bodies' obligations. -/
module

public import proofs.«01_k».proof.Proof.DwRunI
public import proofs.«01_k».proof.Proof.QuantRunI
public import proofs.«01_k».proof.Proof.Gen.KernelIdeal.Points
public import proofs.«01_k».proof.Proof.Gen.KernelIdeal.Regions
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx

variable {F : FTy → Type} [FloatOps F]

local notation "𝕄" => MT nD τ sig Unit (Elt F) ℕ (UR sig nD τ) ℕ

variable (V : Valuation τ sig (Elt F)) (c : Dev nD)

/-! ## The first region -/

/-- The block of `x` at a point. -/
def xBlk (t : Fin cfg0.N) : Vec F S256x1920 .bf16 := (win0_0.blk t).view.read (Elt F) (V main_v0)

/-- The proof data of the first region entered at `V`. -/
def dat0 : Dat τ (Elt F) Unit ℕ (UR sig nD τ) ℕ cfg0 c where
  A w := V (Proc.devRef .tc (Pipeline.arrRef spec0 w))
  after w t := match w with
    | ⟨0, _⟩ => xBlk V t
    | ⟨1, _⟩ => xcodesAll (xBlk V t)
    | ⟨2, _⟩ => xscalesAll (xBlk V t)
    | ⟨3, _⟩ => xhatsAll (xBlk V t)
  Φ _ := iprop(Pipeline.scopedRest (Ix := Unit) (Name := ℕ) (U := UR sig nD τ) (Lvl := ℕ) (Val := Elt F) spec0 c)
  q _ := fullShare
  owed _ := 0

theorem before0_0 (t : Fin cfg0.N) (d) : (dat0 V c).before (0 : Fin 4) t d = xBlk V t := by
  unfold Dat.before; rw [if_pos (fetch0_0 t)]; rfl

theorem body0 : BodyObligation (dat0 V c) (defs₀ (F := F)) 𝒱₀ () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0]
  iapply (quant_wp (F := F) (st0_0 t) (st0_1 t) (hstage0_1 ((cfg0.slots t 1).cast nbuf0_1)) (st0_2 t) (st0_3 t)
    (hstage0_3 ((cfg0.slots t 3).cast nbuf0_3)) (grid0.coords t) (hstage0_0 ((cfg0.slots t 0).cast nbuf0_0))
    (hstage0_2 ((cfg0.slots t 2).cast nbuf0_2)) c Set.univ (xBlk V t) ((dat0 V c).before (1 : Fin 4) t d1)
    ((dat0 V c).before (2 : Fin 4) t d2) ((dat0 V c).before (3 : Fin 4) t d3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The second region -/

/-- The transposed widened codes of `x`, whole. -/
def xtOf : Vec F S24x1920x256 .bf16 := V main_v2_2

/-- The block of `dy` at a point as the fetch reads it: the columns inside the array. -/
def dyBlk (t : Fin cfg1.N) : (win1_1.xblock (grid1.coords t)).Idx → Elt F .bf16 := (win1_1.blk t).view.read (Elt F) (V main_v1)

/-- The staging buffer after the fetch, over what it held. -/
@[irreducible] def dyFill (t : Fin cfg1.N) (d : Vec F S6144x256 .bf16) : Vec F S6144x256 .bf16 := win1_1.fill (grid1.coords t) d (dyBlk V t)

/-- The block of `dy` filled out with zeros past the array's end. -/
@[irreducible] def dyWhole (t : Fin cfg1.N) : Vec F S6144x256 .bf16 := dyFill V t fun _ => Scalar.ofBits .bf16 0#16

/-- The proof data of the second region entered at `V`. -/
def dat1 : Dat τ (Elt F) Unit ℕ (UR sig nD τ) ℕ cfg1 c where
  A w := V (Proc.devRef .tc (Pipeline.arrRef spec1 w))
  after w t := match w with
    | ⟨0, _⟩ => xtOf V
    | ⟨1, _⟩ => dyWhole V t
    | ⟨2, _⟩ => dwOf (xtOf V) (hatsAll (dyWhole V t))
    | ⟨3, _⟩ => codesAll (dyWhole V t)
    | ⟨4, _⟩ => scalesAll (dyWhole V t)
  Φ _ := iprop(Pipeline.scopedRest (Ix := Unit) (Name := ℕ) (U := UR sig nD τ) (Lvl := ℕ) (Val := Elt F) spec1 c)
  q _ := fullShare
  owed _ := 0

theorem xt_read (t : Fin cfg1.N) : (win1_0.blk t).view.read (Elt F) (V main_v2_2) = xtOf V := by
  funext y
  have e : win1_0.index t = ![0, 0, 0] := rfl
  refine congrArg (V main_v2_2) (Mem.ext3 (a := (win1_0.blk t).view.emb y) (b := y) ?_ ?_ ?_) <;> blk_simp [e]

theorem before1_0 (t : Fin cfg1.N) (d) : (dat1 V c).before (0 : Fin 5) t d = xtOf V := by
  unfold Dat.before
  by_cases h : (cfg1.win (0 : Fin 5)).fetch t = true
  · rw [if_pos h]; exact xt_read V t
  · rw [if_neg h]
    have ht : ¬t.val = 0 := fun e => h ((fetch1_0 t).mpr (by rw [e]))
    have hf : ∀ s, (cfg1.win (0 : Fin 5)).flush s = false := fun _ => rfl
    rw [if_neg ht]
    dsimp only
    rw [hf, if_neg Bool.false_ne_true]; rfl
theorem before1_1 (t : Fin cfg1.N) (d) : (dat1 V c).before (1 : Fin 5) t d = dyFill V t d := by
  unfold Dat.before; rw [if_pos (fetch1_1 t)]; unfold dyFill; rfl

theorem after1_1 (t : Fin cfg1.N) : (dat1 V c).after (1 : Fin 5) t = dyWhole V t := rfl

theorem dy_cut (t : Fin cfg1.N) : (win1 1).cut (grid1.coords t) (dyWhole V t) = dyBlk V t := by
  unfold dyWhole dyFill
  exact win1_1.cut_fill _ _ _

/-- What the staging buffer of `dy` holds is the block it is to hold, filled out with what it held. -/
theorem dy_back (t : Fin cfg1.N) (d : Vec F S6144x256 .bf16) :
    (win1 1).fill (grid1.coords t) d ((win1 1).cut (grid1.coords t) ((dat1 V c).after (1 : Fin 5) t)) = dyFill V t d := by
  rw [after1_1, dy_cut]; unfold dyFill; rfl

/-- A scoped buffer of the core, holding something. -/
abbrev rest1At (r : Ref sig .tc) : sProp 𝕄 := iprop(∃ f : Buf (Elt F) ((c : Thread nD τ).loc r), ((c : Thread nD τ).loc r) ↦{fullShare} f)

/-- The scoped buffers that the second region does not stage: the scratch, and the rest. -/
theorem rest1 : ∃ R : sProp 𝕄, (Pipeline.scopedRest (Ix := Unit) (Name := ℕ) (U := UR sig nD τ) (Lvl := ℕ) (Val := Elt F) spec1 c : sProp 𝕄) ⊣⊢
    iprop(R ∗ (∃ f, owns (c : Thread nD τ) (Memref.whole cc1_scratch0) fullShare f)) := by
  rw [scopedRest1_eq]
  simp only [owns_whole]
  refine ⟨iprop(rest1At c cc0_stg0_0 ∗ rest1At c cc0_stg0_1 ∗ rest1At c cc0_stg1_0 ∗ rest1At c cc0_stg1_1 ∗ rest1At c cc0_stg2_0 ∗ rest1At c cc0_stg2_1 ∗ rest1At c cc0_stg3_0 ∗ rest1At c cc0_stg3_1), ?_, ?_⟩
  · iintro ⟨H0, H1, H2, H3, H4, H5, H6, H7, H8⟩
    isplitr [H8]; swap; · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨H0, H1, H2, H3, H4, H5, H6, H7⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The windows whose contents after the body are left open: the results. -/
def open1 : Fin 5 → Bool := fun | 0 => false | 1 => false | _ => true

theorem body1_open : BodyObligationLoose (dat1 V c) (defs₀ (F := F)) 𝒱₀ () Set.univ open1 := fun t => by
  obtain ⟨R, hR, hR'⟩ := rest1 (F := F) c
  rw [bigSep_W1, bigSep_W1]
  simp only [open1]
  rw [show (dat1 V c).Φ t.succ = (dat1 V c).Φ t.castSucc from rfl,
    show (dat1 V c).owesAt () t.succ = (dat1 V c).owesAt () t.castSucc from rfl,
    show (dat1 V c).Φ t.castSucc = Pipeline.scopedRest (Ix := Unit) (Name := ℕ) (U := UR sig nD τ) (Lvl := ℕ) (Val := Elt F) spec1 c from rfl]
  iintro ⟨HΦ, Ho, ⟨%d0, H0⟩, ⟨%d1, H1⟩, ⟨%d2, H2⟩, ⟨%d3, H3⟩, ⟨%d4, H4⟩⟩
  ihave HΦ := hR $$ HΦ
  icases HΦ with ⟨HR, ⟨%f, H6⟩⟩
  rw [before1_0 V c t d0, before1_1 V c t d1]
  iapply (dw_wp (F := F) (st1_0 t) (st1_1 t) (st1_2 t) (st1_3 t) (hstage1_3 ((cfg1.slots t 3).cast nbuf1_3)) (st1_4 t)
    (Memref.whole cc1_scratch0) (Memref.isWhole_whole _) (grid1.coords t) (hstage1_0 ((cfg1.slots t 0).cast nbuf1_0))
    (hstage1_1 ((cfg1.slots t 1).cast nbuf1_1)) (hstage1_2 ((cfg1.slots t 2).cast nbuf1_2)) (hstage1_4 ((cfg1.slots t 4).cast nbuf1_4))
    c Set.univ (xtOf V) (dyFill V t d1) d2 d3 d4 f _)
  isplitl [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  isplitl [HR H6]
  · iapply hR'
    isplitl [HR]; · iexact HR
    iexists _; iexact H6
  isplitl [Ho]; · iexact Ho
  isplitl [H0]; · iexact H0
  isplitl [H1]
  · iexists d1
    rw [dy_back]
    iexact H1
  isplitl [H2]; · iexists _; iexact H2
  isplitl [H3]; · iexists _; iexact H3
  iexists _; iexact H4

end Cert.KernelIdeal.Own

end
-- ==== Proof.RunI.lean ====
/- The program's run: from any memory every execution ends with the unscoped buffers at what the last host stretch computes
   of contents that agree with the second region's proof data on the windows kept. -/
module

public import proofs.«01_k».proof.Proof.DatI
public import proofs.«01_k».proof.Proof.RegF

@[expose] public section

set_option maxRecDepth 16384

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat HostSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the first region. -/
def VB (c : Dev nD) : Valuation τ sig (Elt F) := afterRegion (dat0 (V1 m c) c) (V1 m c)

/-- The two regions' proof data. -/
def dats : (p : Fin 2) → (c : Dev nD) → Dat τ (Elt F) Unit ℕ (UR sig nD τ) ℕ (cfgs p) c
  | 0 => fun c => dat0 (V1 m c) c
  | 1 => fun c => dat1 (VB m c) c

/-- The windows left open: none of the first region's. -/
def fg (f : Fin 5 → Bool) : (q : Fin 2) → Fin (Pipeline.pin (pcfgs (F := F)) adm q).W → Bool
  | 0 => fun _ => false
  | 1 => f

abbrev Lv : GSem nD τ sig → Finset Unit := fun _ => ∅
abbrev lv : GSem nD τ sig → Unit → ℕ := fun _ _ => 0

theorem kit0 : Pipeline.PLaunchFacts (nD := nD) (τ := τ) (pcfgs (F := F)) 0 := launch0.toP
theorem kit1 : Pipeline.PLaunchFacts (nD := nD) (τ := τ) (pcfgs (F := F)) 1 := launch1.toP

theorem hb0 (f : Fin 5 → Bool) (c : Dev nD) : BodyObligationLoose (dats m 0 c) (defs₀ (F := F)) 𝒱₀ () Set.univ (fg (F := F) f 0) :=
  (body0 (V1 m c) c).loose

theorem owed0 (p : Fin 2) (c : Dev nD) (t) : (dats m p c).owed t = 0 := by
  match p with
  | 0 => rfl
  | 1 => rfl

theorem recorded0 (p : Fin 2) (c : Dev nD) : (dats m p c).recorded 0 = Set.univ := by
  match p with
  | 0 => rfl
  | 1 => rfl

theorem share0 (p : Fin 2) (c : Dev nD) (w) : (dats m p c).share w = fullShare := by
  match p with
  | 0 => exact (dats m 0 c).share_full (fun _ => rfl) w
  | 1 => exact (dats m 1 c).share_full (fun _ => rfl) w

theorem entry0 (c : Dev nD) (w) : (dats m 0 c).arrAt w 0 = V1 m c (Proc.devRef .tc (Pipeline.arrRef spec0 w)) := rfl
theorem entry1 (c : Dev nD) (w) : (dats m 1 c).arrAt w 0 = VB m c (Proc.devRef .tc (Pipeline.arrRef spec1 w)) := rfl

attribute [local irreducible] Pipeline.scopedRest in
theorem inv (p : Fin 2) (c : Dev nD) (t) : (Pipeline.scopedRest (Pipeline.pin (pcfgs (F := F)) adm p).spec c : sProp 𝕄) = (dats m p c).Φ t := by
  match p with
  | 0 => rfl
  | 1 => rfl

def reg0 (f : Fin 5 → Bool) : RDat.RegionSeg (pcfgs (F := F)) adm (Pipeline.toRsF (pcfgs (F := F)) adm (dats m) (fg f)) () defs₀ 𝒱₀ Lv lv 0 :=
  RegF.reg (pcfgs (F := F)) adm (dats m) () defs₀ 𝒱₀ Lv lv 0 (fg f) kit0 rfl (hb0 m f) (owed0 m 0) (recorded0 m 0)
    (share0 m 0) (inv m 0) (V1 m) (entry0 m)

def reg1 (f : Fin 5 → Bool) (hb : ∀ c, BodyObligationLoose (dat1 (VB m c) c) (defs₀ (F := F)) 𝒱₀ () Set.univ f) :
    RDat.RegionSeg (pcfgs (F := F)) adm (Pipeline.toRsF (pcfgs (F := F)) adm (dats m) (fg f)) () defs₀ 𝒱₀ Lv lv 1 :=
  RegF.reg (pcfgs (F := F)) adm (dats m) () defs₀ 𝒱₀ Lv lv 1 (fg f) kit1 rfl hb (owed0 m 1) (recorded0 m 1)
    (share0 m 1) (inv m 1) (VB m) (entry1 m)

/-- What is known of the buffers after the second region. -/
def Left1 (f : Fin 5 → Bool) (c : Dev nD) (V : Valuation τ sig (Elt F)) : Prop :=
  RegF.Left (pcfgs (F := F)) adm (dats m) 1 (fg f) c (VB m c) V

def hseg0 : HostSeg (Ix := Unit) (Name := ℕ) (U := UR sig nD τ) (pcfgs (F := F)) defs₀ 𝒱₀ Lv lv :=
  RegF.host (pcfgs (F := F)) defs₀ 𝒱₀ Lv lv hostOps0 (fun op h => Pipeline.sub_ucRefs op ((List.forall_iff_forall_mem.mp hostOps0_sub) op h))
    (fun op h => (List.forall_iff_forall_mem.mp hostOps0_fresh) op h) fun c V => V = V0 m c

def hseg3 (f : Fin 5 → Bool) : HostSeg (Ix := Unit) (Name := ℕ) (U := UR sig nD τ) (pcfgs (F := F)) defs₀ 𝒱₀ Lv lv :=
  RegF.host (pcfgs (F := F)) defs₀ 𝒱₀ Lv lv hostOps2 (fun op h => Pipeline.sub_ucRefs op ((List.forall_iff_forall_mem.mp hostOps2_sub) op h))
    (fun op h => (List.forall_iff_forall_mem.mp hostOps2_fresh) op h) (Left1 m f)

abbrev segsF (f : Fin 5 → Bool) (hb : ∀ c, BodyObligationLoose (dat1 (VB m c) c) (defs₀ (F := F)) 𝒱₀ () Set.univ f) (_ : Dev nD) :
    List (RDat.Seg (pcfgs (F := F)) adm (Pipeline.toRsF (pcfgs (F := F)) adm (dats m) (fg f)) () defs₀ 𝒱₀ Lv lv) :=
  [.host (hseg0 m), .region (reg0 m f), .region (reg1 m f hb), .host (hseg3 m f)]

/-- Contents that agree with the first region's proof data are those after it. -/
theorem left0 (f : Fin 5 → Bool) (c : Dev nD) (V : Valuation τ sig (Elt F))
    (h : RegF.Left (pcfgs (F := F)) adm (dats m) 0 (fg f) c (V1 m c) V) : V = VB m c := by
  funext d
  by_cases hd : d ∈ Pipeline.arrRefs (τ := τ) spec0
  · obtain ⟨r, hr, rfl⟩ := Finset.mem_map.mp hd
    obtain ⟨w, -, rfl⟩ := Finset.mem_image.mp hr
    exact (h.1 w rfl).trans (Pipeline.afterRegion_arr (dat0 (V1 m c) c) (V1 m c) launch0.win.arr_inj w).symm
  · rw [h.2 d hd]
    exact (Pipeline.afterRegion_off (dat0 (V1 m c) c) (V1 m c) Finset.univ d (Finset.mem_sdiff.mpr ⟨Finset.mem_univ _, hd⟩)).symm

/-- What is known at the end. -/
def AtEnd (f : Fin 5 → Bool) (c : Dev nD) (s : MemSt nD τ sig (Elt F)) : Prop :=
  ∃ V, Left1 m f c V ∧ ∀ r : Ref sig .tc, r.isScoped = false → s.mem ((c.tc : Thread nD τ).loc r) = StableHlo.after hostOps2 V (Proc.devRef .tc r)

set_option backward.isDefEq.respectTransparency.types false in
theorem run_main (f : Fin 5 → Bool) (hb : ∀ c, BodyObligationLoose (dat1 (VB m c) c) (defs₀ (F := F)) 𝒱₀ () Set.univ f) :
    θ_run defs (onTc (τ := τ) (main (F := F))) ⟨m, fun _ => 0, ρ⟩ (fun r => (∀ c : Dev nD, AtEnd m f c r.2) ∧ r.2.sem = fun _ => 0) := by
  refine Pipeline.RDat.θ_run_regions_kit_dev_sems (pcfgs (F := F)) adm (Pipeline.toRsF (pcfgs (F := F)) adm (dats m) (fg f)) () cellOf_inj
    (emb₁ : Emb (UR sig nD τ) 𝕄) defs₀ 𝒱₀ Lv lv m ρ main (segsF m f hb)
    (fun c Q => by
      rewrite [main_chain c, Pipeline.RDat.Seg.run_eq_chain,
        show (segsF m f hb c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segsF, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => RegF.Between (fun V => V = V0 m c) c)
    (Tₙ := fun c => iprop(∃ V, ⌜∃ V', Left1 m f c V' ∧ V = StableHlo.after hostOps2 V'⌝ ∗ StableHlo.held (c : Thread nD τ) (Pipeline.ucRefs τ sig) V))
    (hch := fun c => ⟨.rfl, RegF.Between.elim (fun V hV => by obtain ⟨V', rfl, rfl⟩ := hV; rfl), RegF.Between.elim (left0 m f c), .rfl, ?_⟩)
    (hinit := ?_) (QY := AtEnd m f)
    (hfin := fun c s' => ?_) (hQ := fun _ h hz => ⟨h, funext fun g => hz g (.inr (regions_no_unscoped g.2))⟩)
  · show (RegF.Between _ c : sProp 𝕄) ⊢ _
    unfold RegF.Between
    iintro ⟨%V, %hV, Hh, HO⟩
    isplitl [Hh]
    · iexists V
      isplitr; · ipureintro; exact hV
      iexact Hh
    iexact HO
  · refine Pipeline.initEach Lv lv fun c => ?_
    unfold RegF.Between
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    iexists (V0 m c)
    isplitr; · ipureintro; rfl
    isplitl [Hh]; · iexact Hh
    iexists ∅; iexact HO
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      obtain ⟨V', hV', rfl⟩ := hV
      exact ⟨V', hV', fun r hr => h (Proc.devRef .tc r) (Finset.mem_filter.mpr ⟨StableHlo.devRef_mem_tcRefs r, fun h' => Bool.false_ne_true (hr.symm.trans h')⟩)⟩
    · iexact HSI

/-- A buffer that neither the host stretches nor the regions write ends as it began. -/
theorem AtEnd.kept {f : Fin 5 → Bool} {c : Dev nD} {s : MemSt nD τ sig (Elt F)} (h : AtEnd m f c s) (r : Ref sig .tc) (hr : r.isScoped = false)
    (h0 : r ∉ hostOps0_W) (h2 : r ∉ hostOps2_W) (ha : ∀ w, r ≠ Pipeline.arrRef spec0 w) (hb : ∀ w, r ≠ Pipeline.arrRef spec1 w) :
    s.mem ((c.tc : Thread nD τ).loc r) = m ((c.tc : Thread nD τ).loc r) := by
  obtain ⟨V, hV, hs⟩ := h
  have hw : ∀ {W : Nat} {gr : Nat} (win : Fin W → Pipeline.WinSpec sig gr), (∀ w, r ≠ Pipeline.arrRef win w) →
      (Proc.devRef .tc r : DevRef τ sig) ∉ Pipeline.arrRefs (τ := τ) win := by
    intro W gr win hne hm
    obtain ⟨r', hr', e⟩ := Finset.mem_map.mp hm
    obtain ⟨w, -, rfl⟩ := Finset.mem_image.mp hr'
    exact hne w (Proc.devRef_injective _ e).symm
  rw [hs r hr, StableHlo.after_of_writes_sub hostOps2 _ hostOps2_writes h2, hV.2 _ (hw spec1 hb)]
  exact (Pipeline.afterRegion_of_not_arr (dat0 (V1 m c) c) (V1 m c) ha).trans (StableHlo.after_of_writes_sub hostOps0 _ hostOps0_writes h0)

theorem AtEnd.args {f : Fin 5 → Bool} {c : Dev nD} {s : MemSt nD τ sig (Elt F)} (h : AtEnd m f c s) :
    s.mem ((c.tc : Thread nD τ).loc main_arg0) = m ((c.tc : Thread nD τ).loc main_arg0)
      ∧ s.mem ((c.tc : Thread nD τ).loc main_arg1) = m ((c.tc : Thread nD τ).loc main_arg1) :=
  ⟨h.kept m main_arg0 (by decide) (by decide) (by decide) (by decide) (by decide), h.kept m main_arg1 (by decide) (by decide) (by decide) (by decide) (by decide)⟩

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => (h.1 c).args m, h.2⟩) (run_main m ρ open1 fun c => body1_open (VB m c) c)

end Cert.KernelIdeal.Own

end
-- ==== Proof.Scale.lean ====
module

public import Idealize.ShloMosaic.PureOps.Ideal.Laws
public import Idealize.ShloMosaic.PureOps
public import Mathlib.Analysis.SpecialFunctions.Log.Basic

/-! # One channel's scale

The exponent word found bit by bit and the exponent read off the logarithm give the same power of two. -/

@[expose] public section

noncomputable section

namespace Scale

open Idealize.ShloMosaic

/-! ### The search, on one value -/

/-- One step of the search: the bit `c` stays if the word with it reads at most `y`. -/
def bitStep (y : EReal) (bits c : BitVec 32) : BitVec 32 :=
  if Ideal.ofBits .f32 (bits ||| c) ≤ y then bits ||| c else bits

/-- The eight steps. -/
def search (y : EReal) : BitVec 32 :=
  bitStep y (bitStep y (bitStep y (bitStep y (bitStep y (bitStep y (bitStep y (bitStep y 0#32
    1073741824#32) 536870912#32) 268435456#32) 134217728#32) 67108864#32) 33554432#32) 16777216#32) 8388608#32

/-- The exponent word of `y`. -/
def fieldOf (y : EReal) : BitVec 32 :=
  (if Ideal.ofBits .f32 0x7B800000#32 ≤ y then 2139095040#32 else search y) &&& 2139095040#32

/-- The word of the scale. -/
def sbitsOf (y : EReal) : BitVec 32 :=
  if fieldOf y = 0#32 ∨ fieldOf y = 2139095040#32 then 1065353216#32 else fieldOf y + 8388608#32

/-- The word whose exponent field is `E`. -/
def word (E : ℕ) : BitVec 32 := BitVec.ofNat 32 (E * 8388608)

/-- The float of that word. -/
def val (E : ℕ) : EReal := Ideal.ofBits .f32 (word E)

theorem word_facts : ∀ E : Fin 256, ((word E).extractLsb' 31 1 == 1#1) = false ∧ ((word E).extractLsb' 23 8).toNat = E.val
    ∧ ((word E).extractLsb' 0 23).toNat = 0 := by decide +kernel

theorem val_zero : val 0 = 0 := by
  obtain ⟨h1, h2, h3⟩ := word_facts 0
  simp only [Fin.val_zero] at h1 h2 h3
  simp only [val, Ideal.ofBits, Ideal.ieee, Nat.reduceAdd, h1, h2, h3]
  norm_num

theorem val_mid {E : ℕ} (h0 : 1 ≤ E) (h1 : E ≤ 254) : val E = (((2 : ℝ) ^ ((E : ℤ) - 127) : ℝ) : EReal) := by
  obtain ⟨g1, g2, g3⟩ := word_facts ⟨E, by omega⟩
  simp only at g1 g2 g3
  simp only [val, Ideal.ofBits, Ideal.ieee, Nat.reduceAdd, g1, g2, g3]
  rw [if_neg (by norm_num; omega), if_neg (by omega)]
  congr 1
  simp only [Bool.false_eq_true, if_false, one_mul, add_zero]
  have : ((E : ℤ) - 127) = 23 + ((E : ℤ) - (2 ^ (8 - 1) - 1) - (23 : ℕ)) := by norm_num
  rw [this, zpow_add₀ (by norm_num)]
  norm_num

theorem val_top : val 255 = ⊤ := by
  obtain ⟨g1, g2, g3⟩ := word_facts 255
  simp only [show ((255 : Fin 256) : ℕ) = 255 from rfl] at g1 g2 g3
  simp only [val, Ideal.ofBits, Ideal.ieee, Nat.reduceAdd, g1, g2, g3]
  norm_num

/-- Each bit of the field, set in a word whose field has only higher ones. -/
theorem word_or : ∀ (k : Fin 8) (b : Fin 256), b.val % 2 ^ (k.val + 1) = 0 → word b ||| word (2 ^ k.val) = word (b + 2 ^ k.val) := by
  decide +kernel

/-- What is known of the word after the bit `k`: it is the word of a field with no lower bit, `y` reaches it, and does not
    reach the next such field. -/
def Inv (y : EReal) (k : ℕ) (w : BitVec 32) : Prop :=
  ∃ b : ℕ, b + 2 ^ k ≤ 256 ∧ b % 2 ^ k = 0 ∧ w = word b ∧ (b = 0 ∨ val b ≤ y) ∧ (b + 2 ^ k = 256 ∨ y < val (b + 2 ^ k))

theorem Inv.step {y : EReal} (k : Fin 8) {w : BitVec 32} (h : Inv y (k.val + 1) w) : Inv y k.val (bitStep y w (word (2 ^ k.val))) := by
  obtain ⟨b, hb, hm, rfl, hl, hu⟩ := h
  have hp : 0 < 2 ^ k.val := Nat.two_pow_pos _
  have h2 : 2 ^ (k.val + 1) = 2 ^ k.val + 2 ^ k.val := by rw [pow_succ]; omega
  have hor := word_or k ⟨b, by omega⟩ hm
  simp only at hor
  have hd : 2 ^ k.val ∣ b := (Nat.pow_dvd_pow 2 (Nat.le_succ _)).trans (Nat.dvd_of_mod_eq_zero hm)
  unfold bitStep
  rw [hor]
  by_cases hc : Ideal.ofBits .f32 (word (b + 2 ^ k.val)) ≤ y
  · rw [if_pos hc]
    refine ⟨b + 2 ^ k.val, by omega, Nat.mod_eq_zero_of_dvd (hd.add dvd_rfl), rfl, .inr hc, ?_⟩
    rcases hu with hu | hu
    · left; omega
    · right; rwa [h2, ← add_assoc] at hu
  · rw [if_neg hc]
    exact ⟨b, by omega, Nat.mod_eq_zero_of_dvd hd, rfl, hl, .inr (not_le.mp hc)⟩

theorem inv_search (y : EReal) : Inv y 0 (search y) := by
  have h8 : Inv y 8 (0#32) := ⟨0, by norm_num, rfl, rfl, .inl rfl, .inl rfl⟩
  exact ((((((((h8.step 7).step 6).step 5).step 4).step 3).step 2).step 1).step 0)

theorem and_word : ∀ b : Fin 256, word b &&& 2139095040#32 = word b := by decide +kernel
theorem word_ne : ∀ b : Fin 256, 1 ≤ b.val → b.val ≤ 254 → ¬ (word b = 0#32 ∨ word b = 2139095040#32) := by decide +kernel
theorem word_succ : ∀ b : Fin 256, b.val ≤ 254 → word b + 8388608#32 = word (b + 1) := by decide +kernel
theorem word_inv : ∀ b : Fin 256, b.val ≤ 254 → 2130706432#32 - word b = word (254 - b) := by decide +kernel

/-! ### The exponent from the logarithm -/

/-- The exponent of the scale: one more than the whole part of the logarithm, `0` outside the normal range. -/
def expo (y : EReal) : EReal :=
  if y < Ideal.ofBits .f32 0x00800000#32 ∨ Ideal.ofBits .f32 0x7B800000#32 ≤ y then Ideal.ofBits .f32 0x00000000#32
  else Ideal.liftRound Int.floor (Ideal.div (Ideal.log y) (Ideal.log (Ideal.ofBits .f32 0x40000000#32)))
    + Ideal.ofBits .f32 0x3F800000#32

/-- The scale. -/
def scale (y : EReal) : EReal := Ideal.pow (Ideal.ofBits .f32 0x40000000#32) (expo y)
/-- Its inverse. -/
def inv (y : EReal) : EReal := Ideal.pow (Ideal.ofBits .f32 0x40000000#32) (-expo y)

theorem two_eq : Ideal.ofBits .f32 0x40000000#32 = ((2 : ℝ) : EReal) := by
  have := val_mid (E := 128) (by norm_num) (by norm_num)
  rw [show Ideal.ofBits .f32 0x40000000#32 = val 128 from rfl, this]; norm_num
theorem one_eq : Ideal.ofBits .f32 0x3F800000#32 = ((1 : ℝ) : EReal) := by
  have := val_mid (E := 127) (by norm_num) (by norm_num)
  rw [show Ideal.ofBits .f32 0x3F800000#32 = val 127 from rfl, this]; norm_num
theorem zero_eq : Ideal.ofBits .f32 0x00000000#32 = ((0 : ℝ) : EReal) := Ideal.ofBits_zero_f32

theorem expo_out {y : EReal} (h : y < val 1 ∨ val 247 ≤ y) : expo y = ((0 : ℝ) : EReal) := by
  have h' : y < Ideal.ofBits .f32 0x00800000#32 ∨ Ideal.ofBits .f32 0x7B800000#32 ≤ y := h
  rw [expo, if_pos h', zero_eq]

theorem scale_out {y : EReal} (h : y < val 1 ∨ val 247 ≤ y) : scale y = val 127 ∧ inv y = val 127 := by
  have h1 : val 127 = ((1 : ℝ) : EReal) := one_eq
  rw [scale, inv, expo_out h, two_eq, ← EReal.coe_neg, Ideal.pow_coe_coe, Ideal.pow_coe_coe, h1]
  simp [Real.rpow_eq_pow]

theorem expo_mid {E : ℕ} (h0 : 1 ≤ E) (h1 : E ≤ 246) {y : EReal} (hl : val E ≤ y) (hu : y < val (E + 1)) :
    expo y = (((E : ℝ) - 126 : ℝ) : EReal) := by
  have hv := val_mid h0 (by omega)
  have hv' := val_mid (E := E + 1) (by omega) (by omega)
  have m1 := val_mid (E := 1) (by omega) (by omega)
  have m2 := val_mid (E := 247) (by omega) (by omega)
  rw [hv] at hl
  rw [hv'] at hu
  induction y using EReal.rec with
  | bot => simp at hl
  | top => simp at hu
  | coe r =>
    have hl := EReal.coe_le_coe_iff.mp hl
    have hu := EReal.coe_lt_coe_iff.mp hu
    have hr : 0 < r := lt_of_lt_of_le (by positivity) hl
    have hn : ¬ ((r : EReal) < val 1 ∨ val 247 ≤ (r : EReal)) := by
      rw [m1, m2, EReal.coe_lt_coe_iff, EReal.coe_le_coe_iff, not_or, not_lt, not_le]
      constructor
      · exact (zpow_le_zpow_right₀ (by norm_num) (by push_cast; omega)).trans hl
      · exact hu.trans_le (zpow_le_zpow_right₀ (by norm_num) (by push_cast; omega))
    have hlog2 : Real.log 2 ≠ 0 := (Real.log_pos (by norm_num)).ne'
    have hfl : Int.floor (Real.log r * (1 / Real.log 2)) = (E : ℤ) - 127 := by
      have hpos : 0 < Real.log 2 := Real.log_pos (by norm_num)
      rw [mul_one_div, Int.floor_eq_iff, le_div_iff₀ hpos, div_lt_iff₀ hpos]
      constructor
      · rw [← Real.log_zpow]; exact Real.log_le_log (by positivity) hl
      · have : (((E : ℤ) - 127 : ℤ) : ℝ) + 1 = ((((E + 1 : ℕ) : ℤ) - 127 : ℤ) : ℝ) := by push_cast; ring
        rw [this, ← Real.log_zpow]; exact Real.log_lt_log hr hu
    have hn' : ¬ ((r : EReal) < Ideal.ofBits .f32 0x00800000#32 ∨ Ideal.ofBits .f32 0x7B800000#32 ≤ (r : EReal)) := hn
    rw [expo, if_neg hn', two_eq, one_eq, Ideal.log_coe, Ideal.log_coe, if_neg (not_le.mpr hr), if_neg (by norm_num), Ideal.div_coe hlog2,
      ← EReal.coe_mul, Ideal.liftRound_coe, hfl, ← EReal.coe_add]
    congr 1
    push_cast; ring

theorem scale_mid {E : ℕ} (h0 : 1 ≤ E) (h1 : E ≤ 246) {y : EReal} (hl : val E ≤ y) (hu : y < val (E + 1)) :
    scale y = val (E + 1) ∧ inv y = val (254 - (E + 1)) := by
  rw [scale, inv, expo_mid h0 h1 hl hu, two_eq, ← EReal.coe_neg, Ideal.pow_coe_coe, Ideal.pow_coe_coe,
    val_mid (E := E + 1) (by omega) (by omega), val_mid (E := 254 - (E + 1)) (by omega) (by omega)]
  refine ⟨congrArg _ ?_, congrArg _ ?_⟩
  · rw [Real.rpow_eq_pow, ← Real.rpow_intCast]; congr 1; push_cast; ring
  · rw [Real.rpow_eq_pow, ← Real.rpow_intCast]; congr 1
    have : (((254 - (E + 1) : ℕ) : ℤ)) = 254 - (E + 1) := by omega
    rw [this]; push_cast; ring

theorem val_mono_one {E : ℕ} (h0 : 1 ≤ E) (h1 : E ≤ 255) : val 1 ≤ val E := by
  rcases Nat.lt_or_ge E 255 with h | h
  · rw [val_mid le_rfl (by norm_num), val_mid h0 (by omega), EReal.coe_le_coe_iff]
    exact zpow_le_zpow_right₀ (by norm_num) (by push_cast; omega)
  · rw [show E = 255 by omega, val_top]; exact le_top

theorem val_ge {E : ℕ} (h0 : 247 ≤ E) (h1 : E ≤ 255) : val 247 ≤ val E := by
  rcases Nat.lt_or_ge E 255 with h | h
  · rw [val_mid (by norm_num) (by norm_num), val_mid (by omega) (by omega), EReal.coe_le_coe_iff]
    exact zpow_le_zpow_right₀ (by norm_num) (by push_cast; omega)
  · rw [show E = 255 by omega, val_top]; exact le_top

/-- THE SCALE AND ITS INVERSE, from the exponent word and from the logarithm. -/
theorem scale_eq (y : EReal) :
    Ideal.ofBits .f32 (sbitsOf y) = scale y ∧ Ideal.ofBits .f32 (2130706432#32 - sbitsOf y) = inv y := by
  by_cases hb : val 247 ≤ y
  · have hs : sbitsOf y = word 127 := by
      have hf : fieldOf y = 2139095040#32 := by
        have hb' : Ideal.ofBits .f32 0x7B800000#32 ≤ y := hb
        rw [fieldOf, if_pos hb']; decide
      rw [sbitsOf, hf, if_pos (.inr rfl)]; rfl
    obtain ⟨e1, e2⟩ := scale_out (y := y) (.inr hb)
    rw [hs, e1, e2]
    exact ⟨rfl, rfl⟩
  · have hb' : ¬ Ideal.ofBits .f32 0x7B800000#32 ≤ y := hb
    obtain ⟨E, hE, -, hw, hl, hu⟩ := inv_search y
    have hf : fieldOf y = word E := by
      rw [fieldOf, if_neg hb', hw]; exact and_word ⟨E, by omega⟩
    rcases Nat.eq_zero_or_pos E with h0 | h0
    · subst h0
      have hs : sbitsOf y = word 127 := by rw [sbitsOf, hf, if_pos (.inl rfl)]; rfl
      have hy : y < val 1 := by
        rcases hu with hu | hu
        · norm_num at hu
        · simpa using hu
      obtain ⟨e1, e2⟩ := scale_out (y := y) (.inl hy)
      rw [hs, e1, e2]
      exact ⟨rfl, rfl⟩
    · have hl : val E ≤ y := hl.resolve_left (by omega)
      have h246 : E ≤ 246 := by
        by_contra hc
        exact hb ((val_ge (by omega) (by omega)).trans hl)
      have hu : y < val (E + 1) := by
        rcases hu with hu | hu
        · norm_num at hu; omega
        · simpa using hu
      have hs : sbitsOf y = word (E + 1) := by
        rw [sbitsOf, hf, if_neg (word_ne ⟨E, by omega⟩ h0 (by show E ≤ 254; omega))]
        exact word_succ ⟨E, by omega⟩ (by show E ≤ 254; omega)
      obtain ⟨e1, e2⟩ := scale_mid h0 h246 hl hu
      rw [hs, e1, e2, word_inv ⟨E + 1, by omega⟩ (by show E + 1 ≤ 254; omega)]
      exact ⟨rfl, rfl⟩

end Scale

end
-- ==== Proof.Column.lean ====
module

public import proofs.«01_k».proof.Proof.Quant
public import proofs.«01_k».proof.Proof.Scale
public import Idealize.ShloMosaic.Lib.Pipeline.Value
public import Idealize.ShloMosaic.Lib.ValueLayout
public import Idealize.ShloMosaic.Lib.ValueIdx

/-! # One group at exact arithmetic

Every value of a channel depends on that channel's 128 elements alone. -/

@[expose] public section

noncomputable section

namespace Scale

open Idealize.ShloMosaic

/-- A 448th of the largest magnitude of a channel. -/
def colY (f : Fin 128 → EReal) : EReal :=
  (Finset.univ : Finset (Fin 128)).fold max ⊥ (fun r => max (f r) (-(f r))) * Ideal.ofBits .f32 0x3B124925#32

/-- `v` scaled by `i` and clipped to the range of the codes. -/
def clip (v i : EReal) : EReal := min (Ideal.ofBits .f32 0x43E00000#32) (max (Ideal.ofBits .f32 0xC3E00000#32) (v * i))

/-- The codes of a channel. -/
def colCode (f : Fin 128 → EReal) (r : Fin 128) : EReal := clip (f r) (inv (colY f))
/-- The codes widened back. -/
def colHat (f : Fin 128 → EReal) (r : Fin 128) : EReal := colCode f r * scale (colY f)

theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]
theorem hi_eq : Ideal.ofBits .bf16 0x43E0#16 = Ideal.ofBits .f32 0x43E00000#32 := by
  simp [Ideal.ofBits, Ideal.ieee]
  rw [← EReal.coe_mul, ← EReal.coe_mul]; norm_num
theorem lo_eq : Ideal.ofBits .bf16 0xC3E0#16 = Ideal.ofBits .f32 0xC3E00000#32 := by
  simp [Ideal.ofBits, Ideal.ieee]
  rw [← EReal.coe_mul, ← EReal.coe_mul]; norm_num

end Scale

namespace Quant

open Idealize.ShloMosaic
open Idealize.ShloMosaic.ValueIdx

variable {n : ℕ} (H : Facts n)

theorem lift_eq (h : (Blk n).Reduces [0] (Vct n)) (j : Fin n) (r : Fin 128) :
    h.lift (ix1 j) r = ix2 (n0 := 128) (n1 := n) r j := by
  funext a
  match a with
  | 0 => exact Fin.ext rfl
  | 1 => exact Fin.ext rfl

theorem yOf_apply (v : FVec Ideal (Blk n) .bf16) (j : Fin n) :
    yOf H v (ix2 (n0 := 1) (n1 := n) 0 j) = Scale.colY fun r => v (ix2 (n0 := 128) (n1 := n) r j) := by
  rw [yOf, mulf_apply, extf_apply, shapeCast_a_1a_apply, broadcast_apply, shapeCast_self, Scale.colY]
  refine congrArg₂ (· * ·) ((Ideal.multiReduction_maximumf_single (absf v) 0xFF80#16 H.red (.inr rfl) rfl (ix1 j)).trans ?_) rfl
  rw [show FloatOps.ofBits (F := Ideal) .bf16 0xFF80#16 = (⊥ : EReal) from Scale.bot_bf16]
  refine Finset.fold_congr fun r _ => ?_
  exact congrArg (fun i => FloatOps.absf (v i)) (lift_eq H.red j r)

/-- A choice by a comparison of floats, at an index. -/
theorem pick_ge (a b : EReal) (u w : BitVec 32) :
    Scalar.select (FloatOps.cmpf (F := Ideal) (φ := .f32) .oge a b) u w = if b ≤ a then u else w := by
  rw [Ideal.cmpf_def, Ideal.cmp]
  by_cases h : b ≤ a
  · rw [if_pos h, decide_eq_true h]; rfl
  · rw [if_neg h, decide_eq_false h]; rfl

theorem bitStep_apply (y : FVec Ideal (Row n) .f32) (bits : IVec (Row n) 32) (c : BitVec 32) (i : (Row n).Idx) :
    bitStep y bits c i = Scale.bitStep (y i) (bits i) c := by
  rw [bitStep, select_apply, cmpf_apply, pick_ge]
  rfl

theorem search_apply (y : FVec Ideal (Row n) .f32) (i : (Row n).Idx) : search y i = Scale.search (y i) := by
  simp only [search, Scale.search, bitStep_apply, broadcast_apply]

theorem fieldOf_apply (y : FVec Ideal (Row n) .f32) (i : (Row n).Idx) : fieldOf y i = Scale.fieldOf (y i) := by
  rw [fieldOf, show ∀ a b : IVec (Row n) 32, andi a b i = a i &&& b i from fun _ _ => rfl, select_apply, cmpf_apply, broadcast_apply,
    broadcast_apply, pick_ge, search_apply]
  rfl

/-- A choice by either of two equalities of words, at an index. -/
theorem pick_eq (f a b u w : BitVec 32) :
    Scalar.select (IntOp.cmpi .eq f a ||| IntOp.cmpi .eq f b) u w = if f = a ∨ f = b then u else w := by
  have o1 : ∀ p : Bool, (1#1 ||| BitVec.ofBool p) = 1#1 := by decide
  have o2 : ∀ p : Bool, (BitVec.ofBool p ||| 1#1) = 1#1 := by decide
  unfold IntOp.cmpi
  by_cases h : f = a
  · simp [h, Scalar.select, o1]
  · by_cases h' : f = b
    · simp [h', Scalar.select, o2]
    · have e1 : (f == a) = false := beq_eq_false_iff_ne.mpr h
      have e2 : (f == b) = false := beq_eq_false_iff_ne.mpr h'
      simp [h, h', e1, e2, Scalar.select]

theorem sbitsOf_apply (y : FVec Ideal (Row n) .f32) (i : (Row n).Idx) : sbitsOf y i = Scale.sbitsOf (y i) := by
  rw [sbitsOf, select_apply, show ∀ a b : IVec (Row n) 1, ori a b i = a i ||| b i from fun _ _ => rfl,
    show ∀ a b : IVec (Row n) 32, cmpi .eq a b i = IntOp.cmpi .eq (a i) (b i) from fun _ _ => rfl,
    show ∀ a b : IVec (Row n) 32, cmpi .eq a b i = IntOp.cmpi .eq (a i) (b i) from fun _ _ => rfl,
    show ∀ a b : IVec (Row n) 32, addi a b i = a i + b i from fun _ _ => rfl, pick_eq, fieldOf_apply]
  rfl

theorem scaleOf_apply (v : FVec Ideal (Blk n) .bf16) (j : Fin n) :
    scaleOf H v (ix2 (n0 := 1) (n1 := n) 0 j) = Scale.scale (Scale.colY fun r => v (ix2 (n0 := 128) (n1 := n) r j)) := by
  rw [← yOf_apply H v j, ← (Scale.scale_eq _).1, ← sbitsOf_apply]
  rfl

theorem invOf_apply (v : FVec Ideal (Blk n) .bf16) (j : Fin n) :
    invOf H v (ix2 (n0 := 1) (n1 := n) 0 j) = Scale.inv (Scale.colY fun r => v (ix2 (n0 := 128) (n1 := n) r j)) := by
  rw [← yOf_apply H v j, ← (Scale.scale_eq _).2, ← sbitsOf_apply]
  rfl

theorem codesOf_apply (v : FVec Ideal (Blk n) .bf16) (r : Fin 128) (j : Fin n) :
    codesOf H v (ix2 (n0 := 128) (n1 := n) r j) = Scale.colCode (fun r => v (ix2 (n0 := 128) (n1 := n) r j)) r := by
  rw [codesOf, truncf_apply, minimumf_apply, maximumf_apply, mulf_apply, broadcast_apply, broadcast_apply, shapeCast_self,
    broadcastTo_1b_ab_apply, truncf_apply, invOf_apply, Scale.colCode, Scale.clip, ← Scale.hi_eq, ← Scale.lo_eq]
  rfl

theorem hatOf_apply (v : FVec Ideal (Blk n) .bf16) (r : Fin 128) (j : Fin n) :
    hatOf H v (ix2 (n0 := 128) (n1 := n) r j) = Scale.colHat (fun r => v (ix2 (n0 := 128) (n1 := n) r j)) r := by
  rw [hatOf, mulf_apply, extf_apply, broadcastTo_1b_ab_apply, truncf_apply, scaleOf_apply, codesOf_apply, Scale.colHat]

end Quant

end
-- ==== Proof.Spec.lean ====
module

public import proofs.«01_k».proof.Proof.Column

/-! # The results in closed form

A matrix of 6144 tokens, in 48 groups of 128: its codes, its scales and its widened codes, and the product of two matrices
of widened codes over the tokens. -/

@[expose] public section

noncomputable section

namespace Spec

open Idealize.ShloMosaic
open Idealize.ShloMosaic.ValueIdx
open scoped BigOperators

variable {n : ℕ}

/-- Channel `j`'s 128 elements in group `g`. -/
def col {N : ℕ} (D : (⟨2, ![N, n]⟩ : Shape).Idx → EReal) (g : ℕ) (hg : 128 * g + 128 ≤ N) (j : Fin n) : Fin 128 → EReal :=
  fun r => D (ix2 (n0 := N) (n1 := n) ⟨128 * g + r.val, by omega⟩ j)

/-- The scale of group `g` and channel `j`. -/
def scl (D : (⟨2, ![6144, n]⟩ : Shape).Idx → EReal) (g : Fin 48) (j : Fin n) : EReal :=
  Scale.scale (Scale.colY (col D g.val (by omega) j))

/-- The code of token `s` and channel `j`. -/
def code (D : (⟨2, ![6144, n]⟩ : Shape).Idx → EReal) (s : Fin 6144) (j : Fin n) : EReal :=
  Scale.colCode (col D (s.val / 128) (by omega) j) ⟨s.val % 128, Nat.mod_lt _ (by decide)⟩

/-- The code times its scale. -/
def hat (D : (⟨2, ![6144, n]⟩ : Shape).Idx → EReal) (s : Fin 6144) (j : Fin n) : EReal :=
  Scale.colHat (col D (s.val / 128) (by omega) j) ⟨s.val % 128, Nat.mod_lt _ (by decide)⟩

/-- The weight gradient: the sum over the tokens. -/
def dw {k : ℕ} (X : (⟨2, ![6144, k]⟩ : Shape).Idx → EReal) (Y : (⟨2, ![6144, n]⟩ : Shape).Idx → EReal) (i : Fin k) (o : Fin n) : EReal :=
  ∑ s : Fin 6144, hat X s i * hat Y s o

theorem code_eq (D : (⟨2, ![6144, n]⟩ : Shape).Idx → EReal) (s : Fin 6144) (j : Fin n) (g : ℕ) (hg : 128 * g + 128 ≤ 6144) (r : Fin 128)
    (h : s.val = 128 * g + r.val) : code D s j = Scale.colCode (col D g hg j) r := by
  have h1 : s.val / 128 = g := by omega
  have h2 : (⟨s.val % 128, Nat.mod_lt _ (by decide)⟩ : Fin 128) = r := Fin.ext (by show s.val % 128 = _; omega)
  subst h1
  rw [code, h2]

theorem hat_eq (D : (⟨2, ![6144, n]⟩ : Shape).Idx → EReal) (s : Fin 6144) (j : Fin n) (g : ℕ) (hg : 128 * g + 128 ≤ 6144) (r : Fin 128)
    (h : s.val = 128 * g + r.val) : hat D s j = Scale.colHat (col D g hg j) r := by
  have h1 : s.val / 128 = g := by omega
  have h2 : (⟨s.val % 128, Nat.mod_lt _ (by decide)⟩ : Fin 128) = r := Fin.ext (by show s.val % 128 = _; omega)
  subst h1
  rw [hat, h2]

/-- The sum over the tokens, in 24 chunks of 256. -/
theorem dw_chunks {k : ℕ} (X : (⟨2, ![6144, k]⟩ : Shape).Idx → EReal) (Y : (⟨2, ![6144, n]⟩ : Shape).Idx → EReal) (i : Fin k) (o : Fin n) :
    dw X Y i o = ∑ c : Fin 24, ∑ r : Fin 256,
      hat X ⟨256 * c.val + r.val, by omega⟩ i * hat Y ⟨256 * c.val + r.val, by omega⟩ o := by
  rw [dw, ← Equiv.sum_comp (finProdFinEquiv (m := 24) (n := 256)), Fintype.sum_prod_type]
  refine Finset.sum_congr rfl fun c _ => Finset.sum_congr rfl fun r _ => ?_
  have e : finProdFinEquiv (m := 24) (n := 256) (c, r) = (⟨256 * c.val + r.val, by omega⟩ : Fin 6144) :=
    Fin.ext (Nat.add_comm _ _)
  rw [e]

end Spec

end
-- ==== Proof.BlockI.lean ====
module

public import proofs.«01_k».proof.Proof.DatI
public import proofs.«01_k».proof.Proof.Spec
public import Idealize.ShloMosaic.Lib.MatmulPlain

/-! # One block at exact arithmetic

What the bodies leave in their buffers, read at an index: every entry of a channel is a function of that channel's column
of the block. -/

@[expose] public section

set_option maxRecDepth 16384

noncomputable section

namespace Cert.KernelIdeal.Own

open Cert.KernelIdeal Cert.KernelIdeal.Gen
open Idealize.ShloMosaic hiding ix1 ix2 ix3 ix4
open Idealize.ShloMosaic.ValueIdx
open Spec (col)
open scoped BigOperators

theorem sub_rows (D : Vec Ideal S6144x256 .bf16) (g : Fin 48) (r : Fin 128) (j : Fin 256) :
    Mem.sub (rows g) D (ix2 (n0 := 128) (n1 := 256) r j) = col (N := 6144) D g.val (by omega) j r :=
  congrArg D (Mem.ext2 (rows_emb0 _ _) (rows_emb1 _ _))

theorem codesAll_apply (D : Vec Ideal S6144x256 .bf16) (g : Fin 48) (r : Fin 128) (j : Fin 256) (y : S6144x256.Idx)
    (h0 : (y 0).val = 128 * g.val + r.val) (h1 : (y 1).val = j.val) :
    codesAll D y = Scale.colCode (col (N := 6144) D g.val (by omega) j) r := by
  have e : y = (rows g).emb (ix2 (n0 := 128) (n1 := 256) r j) := Mem.ext2 (h0.trans (rows_emb0 g (ix2 (n0 := 128) (n1 := 256) r j)).symm) (h1.trans (rows_emb1 g (ix2 (n0 := 128) (n1 := 256) r j)).symm)
  rw [codesAll, e, ← byGroup_rows]
  refine (Quant.codesOf_apply qdw _ r j).trans ?_
  exact congrArg (fun f => Scale.colCode f r) (funext fun r => sub_rows D g r j)

theorem hatsAll_apply (D : Vec Ideal S6144x256 .bf16) (g : Fin 48) (r : Fin 128) (j : Fin 256) (y : S6144x256.Idx)
    (h0 : (y 0).val = 128 * g.val + r.val) (h1 : (y 1).val = j.val) :
    hatsAll D y = Scale.colHat (col (N := 6144) D g.val (by omega) j) r := by
  have e : y = (rows g).emb (ix2 (n0 := 128) (n1 := 256) r j) := Mem.ext2 (h0.trans (rows_emb0 g (ix2 (n0 := 128) (n1 := 256) r j)).symm) (h1.trans (rows_emb1 g (ix2 (n0 := 128) (n1 := 256) r j)).symm)
  rw [hatsAll, e, ← byGroup_rows, hatsG, shapeCast_self]
  refine (Quant.hatOf_apply qdw _ r j).trans ?_
  exact congrArg (fun f => Scale.colHat f r) (funext fun r => sub_rows D g r j)

theorem scalesAll_apply (D : Vec Ideal S6144x256 .bf16) (g : Fin 48) (j : Fin 256) (y : S48x256.Idx)
    (h0 : (y 0).val = g.val) (h1 : (y 1).val = j.val) :
    scalesAll D y = Scale.scale (Scale.colY (col (N := 6144) D g.val (by omega) j)) := by
  have e : y = ix2 (n0 := 48) (n1 := 256) g j := Mem.ext2 h0 h1
  subst e
  refine (Quant.scaleOf_apply qdw _ j).trans ?_
  exact congrArg (fun f => Scale.scale (Scale.colY f)) (funext fun r => sub_rows D g r j)

theorem sub_xrows (D : Vec Ideal S256x1920 .bf16) (g : Fin 2) (r : Fin 128) (j : Fin 1920) :
    Mem.sub (xrows g) D (ix2 (n0 := 128) (n1 := 1920) r j) = col (N := 256) D g.val (by omega) j r :=
  congrArg D (Mem.ext2 (by show 128 * g.val + 1 * r.val = 128 * g.val + r.val; omega) (by show 0 + 1 * j.val = j.val; omega))

theorem xcodesAll_apply (D : Vec Ideal S256x1920 .bf16) (g : Fin 2) (r : Fin 128) (j : Fin 1920) (y : S256x1920.Idx)
    (h0 : (y 0).val = 128 * g.val + r.val) (h1 : (y 1).val = j.val) :
    xcodesAll D y = Scale.colCode (col (N := 256) D g.val (by omega) j) r := by
  have hg : (⟨(y 0).val / 128, Nat.div_lt_of_lt_mul (y 0).isLt⟩ : Fin 2) = g := Fin.ext (by show (y 0).val / 128 = _; omega)
  have hr : ix2 (n0 := 128) (n1 := 1920) ⟨(y 0).val % 128, Nat.mod_lt _ (by decide)⟩ (y 1) = ix2 (n0 := 128) (n1 := 1920) r j :=
    Mem.ext2 (by show (y 0).val % 128 = r.val; omega) h1
  rw [xcodesAll, hg, hr]
  refine (Quant.codesOf_apply qx _ r j).trans ?_
  exact congrArg (fun f => Scale.colCode f r) (funext fun r => sub_xrows D g r j)

theorem xscalesAll_apply (D : Vec Ideal S256x1920 .bf16) (g : Fin 2) (j : Fin 1920) (y : S1x2x1920.Idx)
    (h1 : (y 1).val = g.val) (h2 : (y 2).val = j.val) :
    xscalesAll D y = Scale.scale (Scale.colY (col (N := 256) D g.val (by omega) j)) := by
  have hg : y 1 = g := Fin.ext h1
  have hj : y 2 = j := Fin.ext h2
  rw [xscalesAll, hg, hj]
  refine (shapeCast_ab_1ab_apply _ shapeCasts_S1x1920_S1x1x1920 0 0 j).trans ?_
  refine (Quant.scaleOf_apply qx _ j).trans ?_
  exact congrArg (fun f => Scale.scale (Scale.colY f)) (funext fun r => sub_xrows D g r j)

theorem xhatsAll_apply (D : Vec Ideal S256x1920 .bf16) (g : Fin 2) (r : Fin 128) (j : Fin 1920) (y : S1x1920x256.Idx)
    (h2 : (y 2).val = 128 * g.val + r.val) (h1 : (y 1).val = j.val) :
    xhatsAll D y = Scale.colHat (col (N := 256) D g.val (by omega) j) r := by
  have hg : (⟨(y 2).val / 128, Nat.div_lt_of_lt_mul (y 2).isLt⟩ : Fin 2) = g := Fin.ext (by show (y 2).val / 128 = _; omega)
  have hr : (⟨(y 2).val % 128, Nat.mod_lt _ (by decide)⟩ : Fin 128) = r := Fin.ext (by show (y 2).val % 128 = _; omega)
  have hj : y 1 = j := Fin.ext h1
  rw [xhatsAll, hg, hr, hj]
  refine (shapeCast_ab_1ab_apply _ shapeCasts_S1920x128_S1x1920x128 0 j r).trans ?_
  refine (transpose_ix2_apply _ transposes_S128x1920_p1_0_S1920x128 j r).trans ?_
  refine (Quant.hatOf_apply qx _ r j).trans ?_
  exact congrArg (fun f => Scale.colHat f r) (funext fun r => sub_xrows D g r j)

/-- The product of a chunk: the sum over its 256 tokens. -/
theorem prodOf_apply (u : Vec Ideal S1x1920x256 .bf16) (w : Vec Ideal S256x256 .bf16) (i : Fin 1920) (j : Fin 256) :
    prodOf u w (ix2 (n0 := 1920) (n1 := 256) i j)
      = ∑ r : Fin 256, u (ix3 (n0 := 1) (n1 := 1920) (n2 := 256) 0 i r) * w (ix2 (n0 := 256) (n1 := 256) r j) := by
  refine (Ideal.matmul_plain_apply (M := 1920) (K := 256) (N := 256) none (shapeCast S1920x256 u shapeCasts_S1x1920x256_S1920x256) w
    (constant S1920x256 .f32 0x00000000#32) i j).trans ?_
  rw [constant_apply, Ideal.ofBits_zero_f32, zero_add]
  exact Finset.sum_congr rfl fun r _ => congrArg (· * _) (shapeCast_1ab_ab_apply u _ i r)

theorem foldl_addf {ι : Type} (f : ι → FVec Ideal S1920x256 .f32) (y : S1920x256.Idx) :
    ∀ (l : List ι) (A : FVec Ideal S1920x256 .f32), l.foldl (fun A k => addf A (f k)) A y = A y + (l.map fun k => f k y).sum
  | [], A => (add_zero _).symm
  | k :: l, A => by
      rw [List.foldl_cons, foldl_addf f y l, addf_apply, List.map_cons, List.sum_cons, add_assoc]

theorem dwOf_apply (X : Vec Ideal S24x1920x256 .bf16) (W : Vec Ideal S6144x256 .bf16) (i : Fin 1920) (j : Fin 256) :
    dwOf X W (ix2 (n0 := 1920) (n1 := 256) i j)
      = ∑ k : Fin 24, ∑ r : Fin 256, X (ix3 (n0 := 24) (n1 := 1920) (n2 := 256) k i r)
          * W (ix2 (n0 := 6144) (n1 := 256) ⟨256 * k.val + r.val, by omega⟩ j) := by
  have e (k : Fin 24) : prodOf (Mem.sub (xtRect k) X) (Mem.sub (chunk k) W) (ix2 (n0 := 1920) (n1 := 256) i j)
      = ∑ r : Fin 256, X (ix3 (n0 := 24) (n1 := 1920) (n2 := 256) k i r)
          * W (ix2 (n0 := 6144) (n1 := 256) ⟨256 * k.val + r.val, by omega⟩ j) := by
    refine (prodOf_apply _ _ i j).trans (Finset.sum_congr rfl fun r _ => congrArg₂ (· * ·) (congrArg X ?_) (congrArg W ?_))
    · exact Mem.ext3 (by show k.val + 1 * 0 = k.val; omega) (by show 0 + 1 * i.val = i.val; omega)
        (by show 0 + 1 * r.val = r.val; omega)
    · exact Mem.ext2 (by show 256 * k.val + 1 * r.val = 256 * k.val + r.val; omega) (by show 0 + 1 * j.val = j.val; omega)
  rw [dwOf, foldl_addf, Fin.sum_univ_succ, ← e 0, Fin.sum_univ_def]
  exact congrArg (fun l : List EReal => _ + l.sum) (List.map_congr_left fun k _ => e k.succ)

end Cert.KernelIdeal.Own

end
-- ==== Proof.ExactI.lean ====
module

public import proofs.«01_k».proof.Proof.BlockI
public import proofs.«01_k».proof.Proof.RunI

/-! # The second kernel's body at exact arithmetic

The block of `dy` at the last point reaches past the array's end. What the body computes at a column inside the array depends
on that column alone, so the parts written back are determined whatever lies past the end. -/

@[expose] public section

set_option maxRecDepth 16384

noncomputable section

namespace Cert.KernelIdeal.Own

open Cert.KernelIdeal Cert.KernelIdeal.Gen
open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx
open Spec (col)
open scoped BigOperators

local notation "𝕄" => MT nD τ sig Unit (Elt Ideal) ℕ (UR sig nD τ) ℕ

variable (V : Valuation τ sig (Elt Ideal)) (c : Dev nD)

/-- The number of the block's columns that lie inside the array. -/
def width (t : Fin grid1.N) : ℕ := min 256 (14208 - 256 * t.val)

theorem index1_1 : ∀ t : Fin grid1.N, win1_1.index t = ![0, t.val] := by decide +kernel
theorem xsize1_1 : ∀ t : Fin grid1.N, win1_1.xsize (grid1.coords t) = ![6144, width t] := by decide +kernel
theorem xsize1_2 : ∀ t : Fin grid1.N, win1_2.xsize (grid1.coords t) = ![1920, width t] := by decide +kernel
theorem xsize1_3 : ∀ t : Fin grid1.N, win1_3.xsize (grid1.coords t) = ![6144, width t] := by decide +kernel
theorem xsize1_4 : ∀ t : Fin grid1.N, win1_4.xsize (grid1.coords t) = ![48, width t] := by decide +kernel

/-- A column inside the array, in the array. -/
abbrev inArr (t : Fin grid1.N) (j : Fin 256) (h : j.val < width t) : Fin 14208 := ⟨256 * t.val + j.val, by unfold width at h; omega⟩

/-- The `dy` the second kernel reads. -/
abbrev dyOf : (⟨2, ![6144, 14208]⟩ : Shape).Idx → EReal := V main_v1

theorem dyFill_apply (t : Fin grid1.N) (d : Vec Ideal S6144x256 .bf16) (r : Fin 6144) (j : Fin 256) (h : j.val < width t) :
    dyFill V t d (ix2 (n0 := 6144) (n1 := 256) r j) = dyOf V (ix2 (n0 := 6144) (n1 := 14208) r (inArr t j h)) := by
  have hm : win1_1.moved (grid1.coords t) (ix2 (n0 := 6144) (n1 := 256) r j) = true := by
    rw [win1_1.moved_iff, xsize1_1]
    intro a
    match a with
    | ⟨0, _⟩ => exact r.isLt
    | ⟨1, _⟩ => exact h
  unfold dyFill Window.fill
  rw [dif_pos hm]
  unfold dyBlk
  refine congrArg (V main_v1) (Mem.ext2 ?_ ?_)
  · blk_simp [index1_1]
  · blk_simp [index1_1]
    show t.val * 256 + j.val = 256 * t.val + j.val
    omega

theorem col_dyFill (t : Fin grid1.N) (d : Vec Ideal S6144x256 .bf16) (g : ℕ) (hg : 128 * g + 128 ≤ 6144) (j : Fin 256) (h : j.val < width t) :
    col (N := 6144) (n := 256) (dyFill V t d) g hg j = col (dyOf V) g hg (inArr t j h) :=
  funext fun r => dyFill_apply V t d _ j h

theorem codes_at (t : Fin grid1.N) (d : Vec Ideal S6144x256 .bf16) (s : Fin 6144) (j : Fin 256) (h : j.val < width t) :
    codesAll (dyFill V t d) (ix2 (n0 := 6144) (n1 := 256) s j) = Spec.code (dyOf V) s (inArr t j h) := by
  rw [codesAll_apply (dyFill V t d) ⟨s.val / 128, by omega⟩ ⟨s.val % 128, Nat.mod_lt _ (by decide)⟩ j _
    (by show s.val = 128 * (s.val / 128) + s.val % 128; omega) rfl, col_dyFill V t d _ _ j h, Spec.code]

theorem hats_at (t : Fin grid1.N) (d : Vec Ideal S6144x256 .bf16) (s : Fin 6144) (j : Fin 256) (h : j.val < width t) :
    hatsAll (dyFill V t d) (ix2 (n0 := 6144) (n1 := 256) s j) = Spec.hat (dyOf V) s (inArr t j h) := by
  rw [hatsAll_apply (dyFill V t d) ⟨s.val / 128, by omega⟩ ⟨s.val % 128, Nat.mod_lt _ (by decide)⟩ j _
    (by show s.val = 128 * (s.val / 128) + s.val % 128; omega) rfl, col_dyFill V t d _ _ j h, Spec.hat]

theorem scales_at (t : Fin grid1.N) (d : Vec Ideal S6144x256 .bf16) (g : Fin 48) (j : Fin 256) (h : j.val < width t) :
    scalesAll (dyFill V t d) (ix2 (n0 := 48) (n1 := 256) g j) = Spec.scl (dyOf V) g (inArr t j h) := by
  rw [scalesAll_apply (dyFill V t d) g j _ rfl rfl, col_dyFill V t d _ _ j h, Spec.scl]

theorem dw_at (t : Fin grid1.N) (d : Vec Ideal S6144x256 .bf16) (i : Fin 1920) (j : Fin 256) (h : j.val < width t) :
    dwOf (xtOf V) (hatsAll (dyFill V t d)) (ix2 (n0 := 1920) (n1 := 256) i j)
      = ∑ k : Fin 24, ∑ r : Fin 256, xtOf V (ix3 (n0 := 24) (n1 := 1920) (n2 := 256) k i r)
          * Spec.hat (dyOf V) ⟨256 * k.val + r.val, by omega⟩ (inArr t j h) := by
  rw [dwOf_apply]
  exact Finset.sum_congr rfl fun k _ => Finset.sum_congr rfl fun r _ => congrArg (_ * ·) (hats_at V t d _ j h)

/-- Two blocks that agree at the columns inside the array agree on the part written back. -/
theorem cut1_2 (t : Fin grid1.N) (A B : Vec Ideal S1920x256 .f32)
    (h : ∀ (i : Fin 1920) (j : Fin 256), j.val < width t → A (ix2 (n0 := 1920) (n1 := 256) i j) = B (ix2 (n0 := 1920) (n1 := 256) i j)) :
    win1_2.cut (grid1.coords t) A = win1_2.cut (grid1.coords t) B := by
  funext x
  have h1 : (x 1).val < width t := lt_of_lt_of_eq (x 1).isLt (congrFun (xsize1_2 t) 1)
  have e : win1_2.xinj (grid1.coords t) x = ix2 (n0 := 1920) (n1 := 256) (win1_2.xinj (grid1.coords t) x 0) (win1_2.xinj (grid1.coords t) x 1) :=
    Mem.ext2 rfl rfl
  show A (win1_2.xinj (grid1.coords t) x) = B (win1_2.xinj (grid1.coords t) x)
  rw [e]
  exact h _ _ h1

theorem cut1_3 (t : Fin grid1.N) (A B : Vec Ideal S6144x256 .fp8e4m3)
    (h : ∀ (i : Fin 6144) (j : Fin 256), j.val < width t → A (ix2 (n0 := 6144) (n1 := 256) i j) = B (ix2 (n0 := 6144) (n1 := 256) i j)) :
    win1_3.cut (grid1.coords t) A = win1_3.cut (grid1.coords t) B := by
  funext x
  have h1 : (x 1).val < width t := lt_of_lt_of_eq (x 1).isLt (congrFun (xsize1_3 t) 1)
  have e : win1_3.xinj (grid1.coords t) x = ix2 (n0 := 6144) (n1 := 256) (win1_3.xinj (grid1.coords t) x 0) (win1_3.xinj (grid1.coords t) x 1) :=
    Mem.ext2 rfl rfl
  show A (win1_3.xinj (grid1.coords t) x) = B (win1_3.xinj (grid1.coords t) x)
  rw [e]
  exact h _ _ h1

theorem cut1_4 (t : Fin grid1.N) (A B : Vec Ideal S48x256 .f32)
    (h : ∀ (i : Fin 48) (j : Fin 256), j.val < width t → A (ix2 (n0 := 48) (n1 := 256) i j) = B (ix2 (n0 := 48) (n1 := 256) i j)) :
    win1_4.cut (grid1.coords t) A = win1_4.cut (grid1.coords t) B := by
  funext x
  have h1 : (x 1).val < width t := lt_of_lt_of_eq (x 1).isLt (congrFun (xsize1_4 t) 1)
  have e : win1_4.xinj (grid1.coords t) x = ix2 (n0 := 48) (n1 := 256) (win1_4.xinj (grid1.coords t) x 0) (win1_4.xinj (grid1.coords t) x 1) :=
    Mem.ext2 rfl rfl
  show A (win1_4.xinj (grid1.coords t) x) = B (win1_4.xinj (grid1.coords t) x)
  rw [e]
  exact h _ _ h1

/-- Whatever lay past the array's end, the parts written back are those computed with zeros there. -/
theorem dw_cut (t : Fin grid1.N) (d : Vec Ideal S6144x256 .bf16) :
    win1_2.cut (grid1.coords t) (dwOf (xtOf V) (hatsAll (dyFill V t d))) = win1_2.cut (grid1.coords t) (dwOf (xtOf V) (hatsAll (dyWhole V t))) :=
  cut1_2 t _ _ fun i j h => by unfold dyWhole; exact (dw_at V t d i j h).trans (dw_at V t _ i j h).symm
theorem codes_cut (t : Fin grid1.N) (d : Vec Ideal S6144x256 .bf16) :
    win1_3.cut (grid1.coords t) (codesAll (dyFill V t d)) = win1_3.cut (grid1.coords t) (codesAll (dyWhole V t)) :=
  cut1_3 t _ _ fun i j h => by unfold dyWhole; exact (codes_at V t d i j h).trans (codes_at V t _ i j h).symm
theorem scales_cut (t : Fin grid1.N) (d : Vec Ideal S6144x256 .bf16) :
    win1_4.cut (grid1.coords t) (scalesAll (dyFill V t d)) = win1_4.cut (grid1.coords t) (scalesAll (dyWhole V t)) :=
  cut1_4 t _ _ fun i j h => by unfold dyWhole; exact (scales_at V t d i j h).trans (scales_at V t _ i j h).symm

theorem dw_back (t : Fin grid1.N) (d : Vec Ideal S6144x256 .bf16) :
    (win1 2).fill (grid1.coords t) (dwOf (xtOf V) (hatsAll (dyFill V t d))) ((win1 2).cut (grid1.coords t) ((dat1 V c).after (2 : Fin 5) t))
      = dwOf (xtOf V) (hatsAll (dyFill V t d)) := win1_2.fill_congr_cut _ (dw_cut V t d)
theorem codes_back (t : Fin grid1.N) (d : Vec Ideal S6144x256 .bf16) :
    (win1 3).fill (grid1.coords t) (codesAll (dyFill V t d)) ((win1 3).cut (grid1.coords t) ((dat1 V c).after (3 : Fin 5) t))
      = codesAll (dyFill V t d) := win1_3.fill_congr_cut _ (codes_cut V t d)
theorem scales_back (t : Fin grid1.N) (d : Vec Ideal S6144x256 .bf16) :
    (win1 4).fill (grid1.coords t) (scalesAll (dyFill V t d)) ((win1 4).cut (grid1.coords t) ((dat1 V c).after (4 : Fin 5) t))
      = scalesAll (dyFill V t d) := win1_4.fill_congr_cut _ (scales_cut V t d)

/-- No window is left open. -/
def none1 : Fin 5 → Bool := fun _ => false

theorem body1 : BodyObligationLoose (dat1 V c) (defs₀ (F := Ideal)) 𝒱₀ () Set.univ none1 := fun t => by
  obtain ⟨R, hR, hR'⟩ := rest1 (F := Ideal) c
  rw [bigSep_W1, bigSep_W1]
  simp only [none1]
  rw [show (dat1 V c).Φ t.succ = (dat1 V c).Φ t.castSucc from rfl,
    show (dat1 V c).owesAt () t.succ = (dat1 V c).owesAt () t.castSucc from rfl,
    show (dat1 V c).Φ t.castSucc = Pipeline.scopedRest (Ix := Unit) (Name := ℕ) (U := UR sig nD τ) (Lvl := ℕ) (Val := Elt Ideal) spec1 c from rfl]
  iintro ⟨HΦ, Ho, ⟨%d0, H0⟩, ⟨%d1, H1⟩, ⟨%d2, H2⟩, ⟨%d3, H3⟩, ⟨%d4, H4⟩⟩
  ihave HΦ := hR $$ HΦ
  icases HΦ with ⟨HR, ⟨%f, H6⟩⟩
  rw [before1_0 V c t d0, before1_1 V c t d1]
  iapply (dw_wp (F := Ideal) (st1_0 t) (st1_1 t) (st1_2 t) (st1_3 t) (hstage1_3 ((cfg1.slots t 3).cast nbuf1_3)) (st1_4 t)
    (Memref.whole cc1_scratch0) (Memref.isWhole_whole _) (grid1.coords t) (hstage1_0 ((cfg1.slots t 0).cast nbuf1_0))
    (hstage1_1 ((cfg1.slots t 1).cast nbuf1_1)) (hstage1_2 ((cfg1.slots t 2).cast nbuf1_2)) (hstage1_4 ((cfg1.slots t 4).cast nbuf1_4))
    c Set.univ (xtOf V) (dyFill V t d1) ((dat1 V c).before (2 : Fin 5) t d2) ((dat1 V c).before (3 : Fin 5) t d3)
    ((dat1 V c).before (4 : Fin 5) t d4) f _)
  isplitl [H0 H1 H2 H3 H4 H6]
  · isplitl [H0]; · iexact H0
    isplitl [H1]; · iexact H1
    isplitl [H2]; · iexact H2
    isplitl [H3]; · iexact H3
    isplitl [H4]; · iexact H4
    iexact H6
  iintro ⟨H0, H1, H2, H3, H4, H6⟩
  isplitl [HR H6]
  · iapply hR'
    isplitl [HR]; · iexact HR
    iexists _; iexact H6
  isplitl [Ho]; · iexact Ho
  isplitl [H0]; · iexact H0
  isplitl [H1]
  · iexists d1
    rw [dy_back]
    iexact H1
  isplitl [H2]
  · iexists (dwOf (xtOf V) (hatsAll (dyFill V t d1)))
    rw [dw_back]
    iexact H2
  isplitl [H3]
  · iexists (codesAll (dyFill V t d1))
    rw [codes_back]
    iexact H3
  iexists (scalesAll (dyFill V t d1))
  rw [scales_back]
  iexact H4

end Cert.KernelIdeal.Own

end
-- ==== Proof.ArrI.lean ====
module

public import proofs.«01_k».proof.Proof.ExactI

/-! # The kernels' arrays in closed form -/

@[expose] public section

set_option maxRecDepth 16384

noncomputable section

namespace Cert.KernelIdeal.Own

open Cert.KernelIdeal Cert.KernelIdeal.Gen
open Idealize.ShloMosaic hiding ix1 ix2 ix3 ix4
open Idealize.ShloMosaic.TcCoe
open Idealize.ShloMosaic.Pipeline (Dat Cfg Window)
open Idealize.ShloMosaic.ValueIdx
open Spec (col)
open scoped BigOperators

variable (V : Valuation τ sig (Elt Ideal)) (c : Dev nD)

/-! ## The first kernel -/

/-- The `x` the first kernel reads. -/
abbrev xOf : (⟨2, ![6144, 1920]⟩ : Shape).Idx → EReal := V main_v0

theorem index0_0 : ∀ t : Fin grid0.N, win0_0.index t = ![t.val, 0] := by decide +kernel
theorem index0_1 : ∀ t : Fin grid0.N, win0_1.index t = ![t.val, 0] := by decide +kernel
theorem index0_2 : ∀ t : Fin grid0.N, win0_2.index t = ![t.val, 0, 0] := by decide +kernel
theorem index0_3 : ∀ t : Fin grid0.N, win0_3.index t = ![t.val, 0, 0] := by decide +kernel

theorem lt0 (t : Fin grid0.N) : t.val < 24 := t.isLt
theorem lt1 (t : Fin grid1.N) : t.val < 56 := t.isLt

theorem xBlk_apply (t : Fin cfg0.N) (r : Fin 256) (j : Fin 1920) (s : Fin 6144) (hs : s.val = 256 * t.val + r.val) :
    xBlk V t (ix2 (n0 := 256) (n1 := 1920) r j) = xOf V (ix2 (n0 := 6144) (n1 := 1920) s j) := by
  unfold xBlk
  refine congrArg (V main_v0) (Mem.ext2 ?_ ?_)
  · blk_simp [index0_0]
    show t.val * 256 + r.val = s.val
    omega
  · blk_simp [index0_0]

theorem col_xBlk (t : Fin cfg0.N) (g : ℕ) (hg : 128 * g + 128 ≤ 256) (g' : ℕ) (hg' : 128 * g' + 128 ≤ 6144) (h : g' = 2 * t.val + g) (j : Fin 1920) :
    col (N := 256) (n := 1920) (xBlk V t) g hg j = col (xOf V) g' hg' j :=
  funext fun r => xBlk_apply V t _ j _ (by show 128 * g' + r.val = 256 * t.val + (128 * g + r.val); omega)

theorem xcodes_at (t : Fin cfg0.N) (r : Fin 256) (j : Fin 1920) (s : Fin 6144) (hs : s.val = 256 * t.val + r.val) :
    xcodesAll (xBlk V t) (ix2 (n0 := 256) (n1 := 1920) r j) = Spec.code (xOf V) s j := by
  have ht := lt0 t
  rw [xcodesAll_apply (xBlk V t) ⟨r.val / 128, by omega⟩ ⟨r.val % 128, Nat.mod_lt _ (by decide)⟩ j _
    (by show r.val = 128 * (r.val / 128) + r.val % 128; omega) rfl, col_xBlk V t _ _ (2 * t.val + r.val / 128) (by omega) rfl]
  exact (Spec.code_eq (xOf V) _ j _ _ _ (by show _ = 128 * (2 * t.val + r.val / 128) + r.val % 128; omega)).symm

theorem xscales_at (t : Fin cfg0.N) (g : Fin 2) (j : Fin 1920) (g' : Fin 48) (hg : g'.val = 2 * t.val + g.val) :
    xscalesAll (xBlk V t) (ix3 (n0 := 1) (n1 := 2) (n2 := 1920) 0 g j) = Spec.scl (xOf V) g' j := by
  rw [xscalesAll_apply (xBlk V t) g j _ rfl rfl, col_xBlk V t _ _ g'.val (by omega) hg, Spec.scl]

theorem xhats_at (t : Fin cfg0.N) (i : Fin 1920) (r : Fin 256) (s : Fin 6144) (hs : s.val = 256 * t.val + r.val) :
    xhatsAll (xBlk V t) (ix3 (n0 := 1) (n1 := 1920) (n2 := 256) 0 i r) = Spec.hat (xOf V) s i := by
  have ht := lt0 t
  rw [xhatsAll_apply (xBlk V t) ⟨r.val / 128, by omega⟩ ⟨r.val % 128, Nat.mod_lt _ (by decide)⟩ i _
    (by show r.val = 128 * (r.val / 128) + r.val % 128; omega) rfl, col_xBlk V t _ _ (2 * t.val + r.val / 128) (by omega) rfl]
  exact (Spec.hat_eq (xOf V) _ i _ _ _ (by show _ = 128 * (2 * t.val + r.val / 128) + r.val % 128; omega)).symm

/-- The codes of `x`. -/
theorem arr0_1 : (dat0 V c).arrAt (1 : Fin 4) cfg0.N = fun y : S6144x1920.Idx => Spec.code (xOf V) (y 0) (y 1) := by
  refine (dat0 V c).arrAt_eq_of_covers (1 : Fin 4) _ (by decide +kernel) fun t _ y => ?_
  have e : win0_1.xinj (grid0.coords t) y = ix2 (n0 := 256) (n1 := 1920) (win0_1.xinj (grid0.coords t) y 0) (win0_1.xinj (grid0.coords t) y 1) :=
    Mem.ext2 rfl rfl
  show xcodesAll (xBlk V t) (win0_1.xinj (grid0.coords t) y) = Spec.code (xOf V) ((win0_1.blk t).view.emb y 0) ((win0_1.blk t).view.emb y 1)
  have e1 : ((win0_1.blk t).view.emb y 1 : Fin 1920) = win0_1.xinj (grid0.coords t) y 1 := Fin.ext (by blk_simp [index0_1])
  rw [e, e1]
  refine xcodes_at V t _ _ _ ?_
  blk_simp [index0_1]
  show t.val * 256 + (y 0).val = 256 * t.val + (y 0).val
  omega

/-- The number of a scale's group. -/
def grp3 (y : S24x2x1920.Idx) : Fin 48 :=
  ⟨2 * (y 0).val + (y 1).val, by have h0 : (y 0).val < 24 := (y 0).isLt; have h1 : (y 1).val < 2 := (y 1).isLt; omega⟩

/-- The scales of `x`. -/
theorem arr0_2 : (dat0 V c).arrAt (2 : Fin 4) cfg0.N = fun y : S24x2x1920.Idx => Spec.scl (xOf V) (grp3 y) (y 2) := by
  refine (dat0 V c).arrAt_eq_of_covers (2 : Fin 4) _ (by decide +kernel) fun t _ y => ?_
  have hy0 : (y 0).val < 1 := (y 0).isLt
  have e : win0_2.xinj (grid0.coords t) y = ix3 (n0 := 1) (n1 := 2) (n2 := 1920) 0 (win0_2.xinj (grid0.coords t) y 1) (win0_2.xinj (grid0.coords t) y 2) :=
    Mem.ext3 (by show (y 0).val = 0; omega) rfl rfl
  show xscalesAll (xBlk V t) (win0_2.xinj (grid0.coords t) y) = Spec.scl (xOf V) (grp3 ((win0_2.blk t).view.emb y)) ((win0_2.blk t).view.emb y 2)
  have e2 : ((win0_2.blk t).view.emb y 2 : Fin 1920) = win0_2.xinj (grid0.coords t) y 2 := Fin.ext (by blk_simp [index0_2])
  have e0 : ((win0_2.blk t).view.emb y 0).val = t.val := by
    blk_simp [index0_2]
  have e1 : ((win0_2.blk t).view.emb y 1).val = (y 1).val := by blk_simp [index0_2]
  rw [e, e2]
  refine xscales_at V t _ _ _ ?_
  exact congrArg₂ (fun a b => 2 * a + b) e0 e1

/-- The token of an entry of the transposed widened codes. -/
def tok3 (y : S24x1920x256.Idx) : Fin 6144 :=
  ⟨256 * (y 0).val + (y 2).val, by have h0 : (y 0).val < 24 := (y 0).isLt; have h2 : (y 2).val < 256 := (y 2).isLt; omega⟩

/-- The widened codes of `x`, transposed. -/
theorem arr0_3 : (dat0 V c).arrAt (3 : Fin 4) cfg0.N = fun y : S24x1920x256.Idx => Spec.hat (xOf V) (tok3 y) (y 1) := by
  refine (dat0 V c).arrAt_eq_of_covers (3 : Fin 4) _ (by decide +kernel) fun t _ y => ?_
  have hy0 : (y 0).val < 1 := (y 0).isLt
  have e : win0_3.xinj (grid0.coords t) y = ix3 (n0 := 1) (n1 := 1920) (n2 := 256) 0 (win0_3.xinj (grid0.coords t) y 1) (win0_3.xinj (grid0.coords t) y 2) :=
    Mem.ext3 (by show (y 0).val = 0; omega) rfl rfl
  show xhatsAll (xBlk V t) (win0_3.xinj (grid0.coords t) y) = Spec.hat (xOf V) (tok3 ((win0_3.blk t).view.emb y)) ((win0_3.blk t).view.emb y 1)
  have e1 : ((win0_3.blk t).view.emb y 1 : Fin 1920) = win0_3.xinj (grid0.coords t) y 1 := Fin.ext (by blk_simp [index0_3])
  have e0 : ((win0_3.blk t).view.emb y 0).val = t.val := by
    blk_simp [index0_3]
  have e2 : ((win0_3.blk t).view.emb y 2).val = (y 2).val := by blk_simp [index0_3]
  rw [e, e1]
  refine xhats_at V t _ _ _ ?_
  exact congrArg₂ (fun a b => 256 * a + b) e0 e2

/-! ## The second kernel -/

theorem index1_2 : ∀ t : Fin grid1.N, win1_2.index t = ![0, t.val] := by decide +kernel
theorem index1_3 : ∀ t : Fin grid1.N, win1_3.index t = ![0, t.val] := by decide +kernel
theorem index1_4 : ∀ t : Fin grid1.N, win1_4.index t = ![0, t.val] := by decide +kernel

/-- The gradient, from the transposed widened codes of `x`. -/
theorem arr1_2 : (dat1 V c).arrAt (2 : Fin 5) cfg1.N = fun y : S1920x14208.Idx =>
    ∑ k : Fin 24, ∑ r : Fin 256, xtOf V (ix3 (n0 := 24) (n1 := 1920) (n2 := 256) k (y 0) r)
      * Spec.hat (dyOf V) ⟨256 * k.val + r.val, by omega⟩ (y 1) := by
  refine (dat1 V c).arrAt_eq_of_covers (2 : Fin 5) _ (by decide +kernel) fun t _ y => ?_
  have h1 : (y 1).val < width t := lt_of_lt_of_eq (y 1).isLt (congrFun (xsize1_2 t) 1)
  have e : win1_2.xinj (grid1.coords t) y = ix2 (n0 := 1920) (n1 := 256) (win1_2.xinj (grid1.coords t) y 0) (win1_2.xinj (grid1.coords t) y 1) :=
    Mem.ext2 rfl rfl
  show dwOf (xtOf V) (hatsAll (dyWhole V t)) (win1_2.xinj (grid1.coords t) y) = _
  rw [e]
  unfold dyWhole
  refine (dw_at V t _ _ _ h1).trans ?_
  have e0 : ((win1_2.blk t).view.emb y 0 : Fin 1920) = win1_2.xinj (grid1.coords t) y 0 := Fin.ext (by blk_simp [index1_2])
  have e1 : ((win1_2.blk t).view.emb y 1 : Fin 14208) = inArr t (win1_2.xinj (grid1.coords t) y 1) h1 := Fin.ext (by
    blk_simp [index1_2]
    show t.val * 256 + (y 1).val = 256 * t.val + (y 1).val
    omega)
  show _ = ∑ k : Fin 24, ∑ r : Fin 256, xtOf V (ix3 (n0 := 24) (n1 := 1920) (n2 := 256) k ((win1_2.blk t).view.emb y 0) r)
      * Spec.hat (dyOf V) ⟨256 * k.val + r.val, _⟩ ((win1_2.blk t).view.emb y 1)
  rw [e0, e1]

/-- The codes of `dy`. -/
theorem arr1_3 : (dat1 V c).arrAt (3 : Fin 5) cfg1.N = fun y : S6144x14208.Idx => Spec.code (dyOf V) (y 0) (y 1) := by
  refine (dat1 V c).arrAt_eq_of_covers (3 : Fin 5) _ (by decide +kernel) fun t _ y => ?_
  have h1 : (y 1).val < width t := lt_of_lt_of_eq (y 1).isLt (congrFun (xsize1_3 t) 1)
  have e : win1_3.xinj (grid1.coords t) y = ix2 (n0 := 6144) (n1 := 256) (win1_3.xinj (grid1.coords t) y 0) (win1_3.xinj (grid1.coords t) y 1) :=
    Mem.ext2 rfl rfl
  show codesAll (dyWhole V t) (win1_3.xinj (grid1.coords t) y) = _
  rw [e]
  unfold dyWhole
  refine (codes_at V t _ _ _ h1).trans ?_
  have e0 : ((win1_3.blk t).view.emb y 0 : Fin 6144) = win1_3.xinj (grid1.coords t) y 0 := Fin.ext (by blk_simp [index1_3])
  have e1 : ((win1_3.blk t).view.emb y 1 : Fin 14208) = inArr t (win1_3.xinj (grid1.coords t) y 1) h1 := Fin.ext (by
    blk_simp [index1_3]
    show t.val * 256 + (y 1).val = 256 * t.val + (y 1).val
    omega)
  show _ = Spec.code (dyOf V) ((win1_3.blk t).view.emb y 0) ((win1_3.blk t).view.emb y 1)
  rw [e0, e1]

/-- The scales of `dy`. -/
theorem arr1_4 : (dat1 V c).arrAt (4 : Fin 5) cfg1.N = fun y : S48x14208.Idx => Spec.scl (dyOf V) (y 0) (y 1) := by
  refine (dat1 V c).arrAt_eq_of_covers (4 : Fin 5) _ (by decide +kernel) fun t _ y => ?_
  have h1 : (y 1).val < width t := lt_of_lt_of_eq (y 1).isLt (congrFun (xsize1_4 t) 1)
  have e : win1_4.xinj (grid1.coords t) y = ix2 (n0 := 48) (n1 := 256) (win1_4.xinj (grid1.coords t) y 0) (win1_4.xinj (grid1.coords t) y 1) :=
    Mem.ext2 rfl rfl
  show scalesAll (dyWhole V t) (win1_4.xinj (grid1.coords t) y) = _
  rw [e]
  unfold dyWhole
  refine (scales_at V t _ _ _ h1).trans ?_
  have e0 : ((win1_4.blk t).view.emb y 0 : Fin 48) = win1_4.xinj (grid1.coords t) y 0 := Fin.ext (by blk_simp [index1_4])
  have e1 : ((win1_4.blk t).view.emb y 1 : Fin 14208) = inArr t (win1_4.xinj (grid1.coords t) y 1) h1 := Fin.ext (by
    blk_simp [index1_4]
    show t.val * 256 + (y 1).val = 256 * t.val + (y 1).val
    omega)
  show _ = Spec.scl (dyOf V) ((win1_4.blk t).view.emb y 0) ((win1_4.blk t).view.emb y 1)
  rw [e0, e1]

end Cert.KernelIdeal.Own

end
-- ==== Proof.Res.lean ====
module

public import proofs.«01_k».proof.Proof.Spec

/-! # The results as functions of the arguments

An argument is `3 × 2048` tokens by `n` channels; its tokens in one line are a matrix of 6144 rows. -/

@[expose] public section

noncomputable section

namespace Spec

open Idealize.ShloMosaic
open Idealize.ShloMosaic.ValueIdx

variable {n : ℕ}

/-- The tokens in one line. -/
def flat (v : (⟨3, ![3, 2048, n]⟩ : Shape).Idx → EReal) : (⟨2, ![6144, n]⟩ : Shape).Idx → EReal := fun y =>
  v (ix3 (n0 := 3) (n1 := 2048) (n2 := n)
    ⟨(y 0).val / 2048, by have h : (y 0).val < 6144 := (y 0).isLt; omega⟩ ⟨(y 0).val % 2048, Nat.mod_lt _ (by decide)⟩ (y 1))

theorem flat_apply (v : (⟨3, ![3, 2048, n]⟩ : Shape).Idx → EReal) (b : Fin 3) (t : Fin 2048) (j : Fin n) (s : Fin 6144)
    (h : s.val = 2048 * b.val + t.val) :
    flat v (ix2 (n0 := 6144) (n1 := n) s j) = v (ix3 (n0 := 3) (n1 := 2048) (n2 := n) b t j) := by
  have e0 : (⟨s.val / 2048, by omega⟩ : Fin 3) = b := Fin.ext (by show s.val / 2048 = _; omega)
  have e1 : (⟨s.val % 2048, Nat.mod_lt _ (by decide)⟩ : Fin 2048) = t := Fin.ext (by show s.val % 2048 = _; omega)
  show v (ix3 (n0 := 3) (n1 := 2048) (n2 := n) ⟨s.val / 2048, _⟩ ⟨s.val % 2048, _⟩ j) = _
  rw [e0, e1]

/-- The reshape that puts the tokens in one line. -/
theorem shapeCast_flat (v : (⟨3, ![3, 2048, n]⟩ : Shape).Idx → EReal) (h : (⟨3, ![3, 2048, n]⟩ : Shape).ShapeCasts ⟨2, ![6144, n]⟩) :
    shapeCast ⟨2, ![6144, n]⟩ v h = flat v := by
  funext y
  have h0 : (y 0).val < 6144 := (y 0).isLt
  refine shapeCast_apply v h y _ ?_
  rw [Shape.rowMajor_val_three, Shape.rowMajor_val_two]
  show ((y 0).val / 2048 * 2048 + (y 0).val % 2048) * n + (y 1).val = (y 0).val * n + (y 1).val
  rw [Nat.div_add_mod']

/-- A token's place in the line. -/
def tok (b : Fin 3) (t : Fin 2048) : Fin 6144 := ⟨2048 * b.val + t.val, by omega⟩
/-- A group's place in the line. -/
def grp (b : Fin 3) (g : Fin 16) : Fin 48 := ⟨16 * b.val + g.val, by omega⟩

/-- The codes. -/
def codes (v : (⟨3, ![3, 2048, n]⟩ : Shape).Idx → EReal) : (⟨3, ![3, 2048, n]⟩ : Shape).Idx → EReal := fun y =>
  code (flat v) (tok (y 0) (y 1)) (y 2)
/-- The scales. -/
def scales (v : (⟨3, ![3, 2048, n]⟩ : Shape).Idx → EReal) : (⟨3, ![3, 16, n]⟩ : Shape).Idx → EReal := fun y =>
  scl (flat v) (grp (y 0) (y 1)) (y 2)
/-- The weight gradient. -/
def grad {k : ℕ} (x : (⟨3, ![3, 2048, k]⟩ : Shape).Idx → EReal) (y : (⟨3, ![3, 2048, n]⟩ : Shape).Idx → EReal) :
    (⟨2, ![k, n]⟩ : Shape).Idx → EReal := fun i => dw (flat x) (flat y) (i 0) (i 1)

/-- A channel of one group, in the arguments' shape. -/
theorem col_flat (v : (⟨3, ![3, 2048, n]⟩ : Shape).Idx → EReal) (b : Fin 3) (g : Fin 16) (j : Fin n) (g' : ℕ) (hg : 128 * g' + 128 ≤ 6144)
    (h : g' = 16 * b.val + g.val) :
    col (flat v) g' hg j = fun r => v (ix3 (n0 := 3) (n1 := 2048) (n2 := n) b ⟨128 * g.val + r.val, by omega⟩ j) :=
  funext fun r => flat_apply v b _ j _ (by show 128 * g' + r.val = 2048 * b.val + (128 * g.val + r.val); omega)

end Spec

end
-- ==== Proof.EndI.lean ====
module

public import proofs.«01_k».proof.Proof.ArrI
public import proofs.«01_k».proof.Proof.Res

/-! # The kernel program's results in closed form -/

@[expose] public section

set_option maxRecDepth 16384

noncomputable section

namespace Cert.KernelIdeal.Own

open Cert.KernelIdeal Cert.KernelIdeal.Gen
open Idealize.ShloMosaic hiding ix1 ix2 ix3 ix4
open Idealize.ShloMosaic.TcCoe
open Idealize.ShloMosaic.ValueIdx
open Idealize.SL.Sem
open scoped BigOperators

variable (m : (ℓ : Loc nD τ sig) → Buf (Elt Ideal) ℓ) (c : Dev nD)

/-- The first argument. -/
abbrev xArg : (⟨3, ![3, 2048, 1920]⟩ : Shape).Idx → EReal := m ((c : Thread nD τ).loc main_arg0)
/-- The second argument. -/
abbrev dyArg : (⟨3, ![3, 2048, 14208]⟩ : Shape).Idx → EReal := m ((c : Thread nD τ).loc main_arg1)

theorem x_flat : xOf (V1 m c) = Spec.flat (xArg m c) := by
  refine Eq.trans ?_ (Spec.shapeCast_flat (xArg m c) shapeCasts_S3x2048x1920_S6144x1920)
  unfold xOf V1
  after_results_simp
  rfl

theorem dy_flat : dyOf (V1 m c) = Spec.flat (dyArg m c) := by
  refine Eq.trans ?_ (Spec.shapeCast_flat (dyArg m c) shapeCasts_S3x2048x14208_S6144x14208)
  unfold dyOf V1
  after_results_simp
  rfl

/-- The first kernel leaves the second operand as it is. -/
theorem dy_kept : dyOf (VB m c) = Spec.flat (dyArg m c) :=
  (Pipeline.afterRegion_of_not_arr (dat0 (V1 m c) c) (V1 m c) (b := main_v1) (by decide)).trans (dy_flat m c)

theorem xt_eq : xtOf (VB m c) = fun y : S24x1920x256.Idx => Spec.hat (Spec.flat (xArg m c)) (tok3 y) (y 1) := by
  refine (Pipeline.afterRegion_arr (dat0 (V1 m c) c) (V1 m c) launch0.win.arr_inj (3 : Fin 4)).trans ((arr0_3 (V1 m c) c).trans ?_)
  rw [x_flat]

theorem codes_x : VB m c main_v2_0 = fun y : S6144x1920.Idx => Spec.code (Spec.flat (xArg m c)) (y 0) (y 1) := by
  refine (Pipeline.afterRegion_arr (dat0 (V1 m c) c) (V1 m c) launch0.win.arr_inj (1 : Fin 4)).trans ((arr0_1 (V1 m c) c).trans ?_)
  rw [x_flat]

theorem scales_x : VB m c main_v2_1 = fun y : S24x2x1920.Idx => Spec.scl (Spec.flat (xArg m c)) (grp3 y) (y 2) := by
  refine (Pipeline.afterRegion_arr (dat0 (V1 m c) c) (V1 m c) launch0.win.arr_inj (2 : Fin 4)).trans ((arr0_2 (V1 m c) c).trans ?_)
  rw [x_flat]

/-! ## The reshapes of the results -/

theorem codes_cast {n : ℕ} (D : (⟨2, ![6144, n]⟩ : Shape).Idx → EReal) (h : (⟨2, ![6144, n]⟩ : Shape).ShapeCasts ⟨3, ![3, 2048, n]⟩)
    (v : (⟨3, ![3, 2048, n]⟩ : Shape).Idx → EReal) (hD : D = fun y => Spec.code (Spec.flat v) (y 0) (y 1)) :
    shapeCast ⟨3, ![3, 2048, n]⟩ D h = Spec.codes v := by
  subst hD
  funext y
  refine (shapeCast_apply _ h y (ix2 (n0 := 6144) (n1 := n) (Spec.tok (y 0) (y 1)) (y 2)) ?_).trans rfl
  rw [Shape.rowMajor_val_three, Shape.rowMajor_val_two]
  show (2048 * (y 0).val + (y 1).val) * n + (y 2).val = ((y 0).val * 2048 + (y 1).val) * n + (y 2).val
  rw [Nat.mul_comm 2048]

theorem scales_cast2 {n : ℕ} (D : (⟨2, ![48, n]⟩ : Shape).Idx → EReal) (h : (⟨2, ![48, n]⟩ : Shape).ShapeCasts ⟨3, ![3, 16, n]⟩)
    (v : (⟨3, ![3, 2048, n]⟩ : Shape).Idx → EReal) (hD : D = fun y => Spec.scl (Spec.flat v) (y 0) (y 1)) :
    shapeCast ⟨3, ![3, 16, n]⟩ D h = Spec.scales v := by
  subst hD
  funext y
  refine (shapeCast_apply _ h y (ix2 (n0 := 48) (n1 := n) (Spec.grp (y 0) (y 1)) (y 2)) ?_).trans rfl
  rw [Shape.rowMajor_val_three, Shape.rowMajor_val_two]
  show (16 * (y 0).val + (y 1).val) * n + (y 2).val = ((y 0).val * 16 + (y 1).val) * n + (y 2).val
  rw [Nat.mul_comm 16]

theorem scales_cast3 (D : S24x2x1920.Idx → EReal) (h : S24x2x1920.ShapeCasts S3x16x1920)
    (v : (⟨3, ![3, 2048, 1920]⟩ : Shape).Idx → EReal) (hD : D = fun y => Spec.scl (Spec.flat v) (grp3 y) (y 2)) :
    shapeCast S3x16x1920 D h = Spec.scales v := by
  subst hD
  funext y
  have h0 : (y 0).val < 3 := (y 0).isLt
  have h1 : (y 1).val < 16 := (y 1).isLt
  refine (shapeCast_apply _ h y (ix3 (n0 := 24) (n1 := 2) (n2 := 1920) ⟨(Spec.grp (y 0) (y 1)).val / 2, by omega⟩
    ⟨(Spec.grp (y 0) (y 1)).val % 2, Nat.mod_lt _ (by decide)⟩ (y 2)) ?_).trans ?_
  · rw [Shape.rowMajor_val_three, Shape.rowMajor_val_three]
    show ((16 * (y 0).val + (y 1).val) / 2 * 2 + (16 * (y 0).val + (y 1).val) % 2) * 1920 + (y 2).val
      = ((y 0).val * 16 + (y 1).val) * 1920 + (y 2).val
    omega
  · refine congrArg (fun g => Spec.scl (Spec.flat v) g (y 2)) (Fin.ext ?_)
    show 2 * ((16 * (y 0).val + (y 1).val) / 2) + (16 * (y 0).val + (y 1).val) % 2 = 16 * (y 0).val + (y 1).val
    omega

/-! ## The run -/

theorem not_arr1 {r : Ref sig .tc} (h : ∀ w, r ≠ Pipeline.arrRef spec1 w) : (Proc.devRef .tc r : DevRef τ sig) ∉ Pipeline.arrRefs (τ := τ) spec1 := by
  intro hm
  obtain ⟨r', hr', e⟩ := Finset.mem_map.mp hm
  obtain ⟨w, -, rfl⟩ := Finset.mem_image.mp hr'
  exact h w (Proc.devRef_injective _ e).symm

variable {m c}
variable {s : MemSt nD τ sig (Elt Ideal)}

theorem AtEnd.grad (h : AtEnd m none1 c s) : s.mem ((c : Thread nD τ).loc main_v3_0) = Spec.grad (xArg m c) (dyArg m c) := by
  obtain ⟨V, hV, hs⟩ := h
  refine (hs main_v3_0 (by decide)).trans ((StableHlo.after_of_writes_sub hostOps2 _ hostOps2_writes (by decide)).trans ?_)
  refine (hV.1 2 rfl).trans ((arr1_2 (VB m c) c).trans ?_)
  rw [xt_eq, dy_kept]
  funext y
  exact (Spec.dw_chunks (Spec.flat (xArg m c)) (Spec.flat (dyArg m c)) (y 0) (y 1)).symm

theorem AtEnd.codesX (h : AtEnd m none1 c s) : s.mem ((c : Thread nD τ).loc main_v4) = Spec.codes (xArg m c) := by
  obtain ⟨V, hV, hs⟩ := h
  refine (hs main_v4 (by decide)).trans (Eq.trans ?_ (codes_cast (V main_v2_0) shapeCasts_S6144x1920_S3x2048x1920 _
    ((hV.2 _ (not_arr1 (r := main_v2_0) (by decide))).trans (codes_x m c))))
  after_results_simp
  rfl

theorem AtEnd.scalesX (h : AtEnd m none1 c s) : s.mem ((c : Thread nD τ).loc main_v5) = Spec.scales (xArg m c) := by
  obtain ⟨V, hV, hs⟩ := h
  refine (hs main_v5 (by decide)).trans (Eq.trans ?_ (scales_cast3 (V main_v2_1) shapeCasts_S24x2x1920_S3x16x1920 _
    ((hV.2 _ (not_arr1 (r := main_v2_1) (by decide))).trans (scales_x m c))))
  after_results_simp
  rfl

theorem AtEnd.codesDy (h : AtEnd m none1 c s) : s.mem ((c : Thread nD τ).loc main_v6) = Spec.codes (dyArg m c) := by
  obtain ⟨V, hV, hs⟩ := h
  refine (hs main_v6 (by decide)).trans (Eq.trans ?_ (codes_cast (V main_v3_1) shapeCasts_S6144x14208_S3x2048x14208 _
    ((hV.1 3 rfl).trans ((arr1_3 (VB m c) c).trans (by rw [dy_kept])))))
  after_results_simp
  rfl

theorem AtEnd.scalesDy (h : AtEnd m none1 c s) : s.mem ((c : Thread nD τ).loc main_v7) = Spec.scales (dyArg m c) := by
  obtain ⟨V, hV, hs⟩ := h
  refine (hs main_v7 (by decide)).trans (Eq.trans ?_ (scales_cast2 (V main_v3_2) shapeCasts_S48x14208_S3x16x14208 _
    ((hV.1 4 rfl).trans ((arr1_4 (VB m c) c).trans (by rw [dy_kept])))))
  after_results_simp
  rfl

variable (m)

/-- The kernel program's run: its five results, its arguments as launched. -/
theorem run (ρ : Dev nD → PrngReg) : θ_run defs (onTc (τ := τ) (main (F := Ideal))) ⟨m, fun _ => 0, ρ⟩ fun r => ∀ c : Dev nD,
      r.2.mem ((c : Thread nD τ).loc main_v3_0) = Spec.grad (xArg m c) (dyArg m c)
      ∧ r.2.mem ((c : Thread nD τ).loc main_v4) = Spec.codes (xArg m c)
      ∧ r.2.mem ((c : Thread nD τ).loc main_v5) = Spec.scales (xArg m c)
      ∧ r.2.mem ((c : Thread nD τ).loc main_v6) = Spec.codes (dyArg m c)
      ∧ r.2.mem ((c : Thread nD τ).loc main_v7) = Spec.scales (dyArg m c)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h.1 c).grad, (h.1 c).codesX, (h.1 c).scalesX, (h.1 c).codesDy, (h.1 c).scalesDy, (h.1 c).args m⟩)
    (run_main m ρ none1 fun c => body1 (VB m c) c)

end Cert.KernelIdeal.Own

end
-- ==== Proof.RefQ.lean ====
module

public import proofs.«01_k».proof.Proof.Res
public import Idealize.ShloMosaic.Lib.IdealHost

/-! # The reference's quantiser

One operand of the reference, `3 × 2048` tokens by `n` channels, as the reference writes it: the groups, the scale read off
the logarithm, the clipped codes before they are narrowed, and the scale repeated for each token. -/

@[expose] public section

noncomputable section

namespace RefQ

open Idealize.ShloMosaic

abbrev Tok (n : ℕ) : Shape := ⟨3, ![3, 2048, n]⟩
abbrev Grp (n : ℕ) : Shape := ⟨4, ![3, 16, 128, n]⟩
abbrev One (n : ℕ) : Shape := ⟨4, ![3, 16, 1, n]⟩
abbrev Scl (n : ℕ) : Shape := ⟨3, ![3, 16, n]⟩
abbrev Pt : Shape := ⟨0, ![]⟩

/-- What the operations ask of the shapes. -/
structure Facts (n : ℕ) : Prop where
  wide : FTy.bits .bf16 < FTy.bits .f32
  split : (Tok n).ShapeCasts (Grp n)
  red : (Grp n).ReducesTo [2] (Scl n)
  pos : 0 < Pt.numel
  fill : Pt.BroadcastsInDim (Scl n) (![] : Fin 0 → Fin (Scl n).rank)
  one : (Scl n).BroadcastsInDim (One n) (![0, 1, 3] : Fin 3 → Fin (One n).rank)
  spread : (One n).BroadcastsInDim (Grp n) (![0, 1, 2, 3] : Fin 4 → Fin (Grp n).rank)
  fillG : Pt.BroadcastsInDim (Grp n) (![] : Fin 0 → Fin (Grp n).rank)
  join : (Grp n).ShapeCasts (Tok n)
  rep : (Scl n).BroadcastsInDim (Grp n) (![0, 1, 3] : Fin 3 → Fin (Grp n).rank)

section Defs

variable {F : FTy → Type} [FloatOps F] {n : ℕ} (H : Facts n) (v : FVec F (Tok n) .bf16)

/-- A constant for each group and channel. -/
def kst (w : BitVec 32) : FVec F (Scl n) .f32 := broadcastInDim (Scl n) ![] H.fill (constant Pt .f32 w)
/-- A constant for each element. -/
def kstG (w : BitVec 32) : FVec F (Grp n) .f32 := broadcastInDim (Grp n) ![] H.fillG (constant Pt .f32 w)

/-- The operand in groups. -/
def grpOf : FVec F (Grp n) .f32 := shapeCast (Grp n) (extf .f32 v H.wide) H.split

/-- A 448th of each channel's largest magnitude. -/
def yOf : FVec F (Scl n) .f32 :=
  mulf (Host.reduce FloatOps.maximumf (Host.absf (grpOf H v)) (constant Pt .f32 0xFF800000#32) H.red H.pos) (kst H 0x3B124925#32)

/-- The exponent of the scale. -/
def expoOf : FVec F (Scl n) .f32 :=
  select (ori (cmpf .olt (yOf H v) (kst H 0x00800000#32)) (cmpf .oge (yOf H v) (kst H 0x7B800000#32))) (kst H 0x00000000#32)
    (addf (Host.floor (Host.divf (Host.log (yOf H v))
      (broadcastInDim (Scl n) ![] H.fill (Host.log (constant Pt .f32 0x40000000#32))))) (kst H 0x3F800000#32))

/-- The scale. -/
def sclOf : FVec F (Scl n) .f32 := Host.powf (kst H 0x40000000#32) (expoOf H v)
/-- Its inverse. -/
def invOf : FVec F (Scl n) .f32 := Host.powf (kst H 0x40000000#32) (Host.negf (expoOf H v))

/-- The clipped quotients. -/
def clipOf : FVec F (Tok n) .f32 :=
  shapeCast (Tok n) (minimumf (kstG H 0x43E00000#32) (maximumf (kstG H 0xC3E00000#32) (mulf (grpOf H v)
    (broadcastInDim (Grp n) ![0, 1, 2, 3] H.spread (broadcastInDim (One n) ![0, 1, 3] H.one (invOf H v)))))) H.join

/-- The scale repeated for each token. -/
def repOf : FVec F (Tok n) .bf16 :=
  shapeCast (Tok n) (broadcastInDim (Grp n) ![0, 1, 3] H.rep (truncf .bf16 (sclOf H v) H.wide)) H.join

end Defs

section Exact

open Idealize.ShloMosaic.ValueIdx

variable {n : ℕ} (H : Facts n) (v : FVec Ideal (Tok n) .bf16)

theorem kst_apply (w : BitVec 32) (i : (Scl n).Idx) : kst (F := Ideal) H w i = Ideal.ofBits .f32 w := by
  rw [kst, broadcastInDim_scalar_apply]
  rfl

theorem kstG_apply (w : BitVec 32) (i : (Grp n).Idx) : kstG (F := Ideal) H w i = Ideal.ofBits .f32 w := by
  rw [kstG, broadcastInDim_scalar_apply]
  rfl

/-- One channel of one group. -/
abbrev chan (b : Fin 3) (g : Fin 16) (j : Fin n) : Fin 128 → EReal := fun r =>
  v (ix3 (n0 := 3) (n1 := 2048) (n2 := n) b ⟨128 * g.val + r.val, by omega⟩ j)

theorem grpOf_apply (b : Fin 3) (g : Fin 16) (r : Fin 128) (j : Fin n) :
    grpOf H v (ix4 (n0 := 3) (n1 := 16) (n2 := 128) (n3 := n) b g r j) = chan v b g j r := by
  rw [grpOf, shapeCast_apply _ _ _ (ix3 (n0 := 3) (n1 := 2048) (n2 := n) b ⟨128 * g.val + r.val, by omega⟩ j), extf_apply]
  rw [Shape.rowMajor_val_three, Shape.rowMajor_val_four]
  show (b.val * 2048 + (128 * g.val + r.val)) * n + j.val = ((b.val * 16 + g.val) * 128 + r.val) * n + j.val
  congr 2
  ring

theorem lift_eq (h : (Grp n).Reduces [2] (Scl n)) (b : Fin 3) (g : Fin 16) (j : Fin n) (r : Fin 128) :
    h.lift (ix3 (n0 := 3) (n1 := 16) (n2 := n) b g j) r = ix4 (n0 := 3) (n1 := 16) (n2 := 128) (n3 := n) b g r j := by
  funext a
  match a with
  | 0 => exact Fin.ext rfl
  | 1 => exact Fin.ext rfl
  | 2 => exact Fin.ext rfl
  | 3 => exact Fin.ext rfl

include H in
theorem red' : (Grp n).Reduces [2] (Scl n) := ⟨H.red.1, by show 0 < 3; decide, H.red.2⟩

theorem yOf_apply (b : Fin 3) (g : Fin 16) (j : Fin n) :
    yOf H v (ix3 (n0 := 3) (n1 := 16) (n2 := n) b g j) = Scale.colY (chan v b g j) := by
  rw [yOf, mulf_apply, kst_apply, Scale.colY]
  refine congrArg₂ (· * ·) ((Host.reduce_eq_fold_single (FloatOps.maximumf (F := Ideal) (φ := .f32)) _ _ H.red (red' H) H.pos _).trans ?_) rfl
  rw [show (constant (F := Ideal) Pt .f32 0xFF800000#32) (Shape.Idx.first H.pos) = (⊥ : EReal) from Scale.bot_f32]
  refine Finset.fold_congr fun r _ => ?_
  refine (congrArg (fun i => FloatOps.absf (F := Ideal) (φ := .f32) (grpOf H v i)) (lift_eq (red' H) b g j r)).trans ?_
  exact congrArg (fun z => FloatOps.absf (F := Ideal) (φ := .f32) z) (grpOf_apply H v b g r j)

/-- A choice by either of two comparisons. -/
theorem pick_or (y a c u w : EReal) :
    Scalar.select (FloatOps.cmpf (F := Ideal) (φ := .f32) .olt y a ||| FloatOps.cmpf (F := Ideal) (φ := .f32) .oge y c) u w
      = if y < a ∨ c ≤ y then u else w := by
  have o1 : ∀ p : Bool, (1#1 ||| BitVec.ofBool p) = 1#1 := by decide
  rw [Ideal.cmpf_def, Ideal.cmpf_def, Ideal.cmp, Ideal.cmp]
  by_cases h : y < a
  · rw [if_pos (.inl h), decide_eq_true h]
    show Scalar.select (1#1 ||| BitVec.ofBool _) u w = u
    rw [o1]; rfl
  · by_cases h' : c ≤ y
    · rw [if_pos (.inr h'), decide_eq_false h, decide_eq_true h']; rfl
    · rw [if_neg (not_or.mpr ⟨h, h'⟩), decide_eq_false h, decide_eq_false h']; rfl

theorem expoOf_apply (i : (Scl n).Idx) : expoOf H v i = Scale.expo (yOf H v i) := by
  rw [expoOf, select_apply, show ∀ a b : IVec (Scl n) 1, ori a b i = a i ||| b i from fun _ _ => rfl, cmpf_apply, cmpf_apply, pick_or,
    kst_apply, kst_apply, kst_apply, addf_apply, kst_apply, Scale.expo]
  congr 2

theorem sclOf_apply (b : Fin 3) (g : Fin 16) (j : Fin n) :
    sclOf H v (ix3 (n0 := 3) (n1 := 16) (n2 := n) b g j) = Scale.scale (Scale.colY (chan v b g j)) := by
  rw [← yOf_apply H v b g j, Scale.scale, ← expoOf_apply, ← kst_apply H 0x40000000#32 (ix3 (n0 := 3) (n1 := 16) (n2 := n) b g j)]
  rfl

theorem invOf_apply (b : Fin 3) (g : Fin 16) (j : Fin n) :
    invOf H v (ix3 (n0 := 3) (n1 := 16) (n2 := n) b g j) = Scale.inv (Scale.colY (chan v b g j)) := by
  rw [← yOf_apply H v b g j, Scale.inv, ← expoOf_apply, ← kst_apply H 0x40000000#32 (ix3 (n0 := 3) (n1 := 16) (n2 := n) b g j)]
  rfl

/-- A token's group and its place in it, as the reshape counts them. -/
theorem join_apply {α : Type} (u : (Grp n).Idx → α) (b : Fin 3) (g : Fin 16) (r : Fin 128) (j : Fin n) (t : Fin 2048) (h : t.val = 128 * g.val + r.val) :
    shapeCast (Tok n) u H.join (ix3 (n0 := 3) (n1 := 2048) (n2 := n) b t j) = u (ix4 (n0 := 3) (n1 := 16) (n2 := 128) (n3 := n) b g r j) := by
  refine shapeCast_apply u H.join _ _ ?_
  rw [Shape.rowMajor_val_three, Shape.rowMajor_val_four]
  show ((b.val * 16 + g.val) * 128 + r.val) * n + j.val = (b.val * 2048 + t.val) * n + j.val
  rw [h]
  congr 2
  ring

theorem clipOf_apply (b : Fin 3) (g : Fin 16) (r : Fin 128) (j : Fin n) (t : Fin 2048) (h : t.val = 128 * g.val + r.val) :
    clipOf H v (ix3 (n0 := 3) (n1 := 2048) (n2 := n) b t j) = Scale.colCode (chan v b g j) r := by
  rw [clipOf, join_apply H _ b g r j t h, minimumf_apply, maximumf_apply, mulf_apply, kstG_apply, kstG_apply, grpOf_apply,
    broadcastInDim_apply _ H.spread _ _ (ix4 (n0 := 3) (n1 := 16) (n2 := 1) (n3 := n) b g 0 j),
    broadcastInDim_apply _ H.one _ _ (ix3 (n0 := 3) (n1 := 16) (n2 := n) b g j), invOf_apply, Scale.colCode, Scale.clip]
  · intro a
    match a with
    | 0 => rfl
    | 1 => rfl
    | 2 => show j.val = if n = 1 then 0 else j.val; split <;> omega
  · intro a
    match a with
    | 0 => rfl
    | 1 => rfl
    | 2 => rfl
    | 3 => show j.val = if n = 1 then 0 else j.val; split <;> omega

theorem repOf_apply (b : Fin 3) (g : Fin 16) (r : Fin 128) (j : Fin n) (t : Fin 2048) (h : t.val = 128 * g.val + r.val) :
    repOf H v (ix3 (n0 := 3) (n1 := 2048) (n2 := n) b t j) = Scale.scale (Scale.colY (chan v b g j)) := by
  rw [repOf, join_apply H _ b g r j t h, broadcastInDim_apply _ H.rep _ _ (ix3 (n0 := 3) (n1 := 16) (n2 := n) b g j), truncf_apply, sclOf_apply]
  intro a
  match a with
  | 0 => rfl
  | 1 => rfl
  | 2 => show j.val = if n = 1 then 0 else j.val; split <;> omega

/-! ### In the closed form -/

theorem scl_at (b : Fin 3) (g : Fin 16) (j : Fin n) :
    sclOf H v (ix3 (n0 := 3) (n1 := 16) (n2 := n) b g j) = Spec.scl (Spec.flat v) (Spec.grp b g) j := by
  rw [sclOf_apply, Spec.scl, Spec.col_flat v b g j (Spec.grp b g).val _ rfl]

theorem scl_spec : sclOf H v = Spec.scales v := by
  funext y
  have e : y = ix3 (n0 := 3) (n1 := 16) (n2 := n) (y 0) (y 1) (y 2) := by
    funext a
    match a with
    | 0 => rfl
    | 1 => rfl
    | 2 => rfl
  rw [e]
  exact scl_at H v _ _ _

theorem code_flat (s : Fin 6144) (b : Fin 3) (t : Fin 2048) (j : Fin n) (hs : s.val = 2048 * b.val + t.val) :
    clipOf H v (ix3 (n0 := 3) (n1 := 2048) (n2 := n) b t j) = Spec.code (Spec.flat v) s j := by
  have hg : 128 * (16 * b.val + t.val / 128) + 128 ≤ 6144 := by omega
  rw [clipOf_apply H v b ⟨t.val / 128, by omega⟩ ⟨t.val % 128, Nat.mod_lt _ (by decide)⟩ j t (by show _ = 128 * (t.val / 128) + t.val % 128; omega),
    Spec.code_eq (Spec.flat v) s j (16 * b.val + t.val / 128) hg ⟨t.val % 128, Nat.mod_lt _ (by decide)⟩
      (by show _ = 128 * (16 * b.val + t.val / 128) + t.val % 128; omega),
    Spec.col_flat v b ⟨t.val / 128, by omega⟩ j _ _ rfl]

theorem hat_flat (s : Fin 6144) (b : Fin 3) (t : Fin 2048) (j : Fin n) (hs : s.val = 2048 * b.val + t.val) :
    clipOf H v (ix3 (n0 := 3) (n1 := 2048) (n2 := n) b t j) * repOf H v (ix3 (n0 := 3) (n1 := 2048) (n2 := n) b t j)
      = Spec.hat (Spec.flat v) s j := by
  have hg : 128 * (16 * b.val + t.val / 128) + 128 ≤ 6144 := by omega
  have ht : t.val = 128 * (⟨t.val / 128, by omega⟩ : Fin 16).val + (⟨t.val % 128, Nat.mod_lt _ (by decide)⟩ : Fin 128).val := by
    show _ = 128 * (t.val / 128) + t.val % 128; omega
  rw [clipOf_apply H v b _ _ j t ht, repOf_apply H v b _ _ j t ht,
    Spec.hat_eq (Spec.flat v) s j (16 * b.val + t.val / 128) hg ⟨t.val % 128, Nat.mod_lt _ (by decide)⟩
      (by show _ = 128 * (16 * b.val + t.val / 128) + t.val % 128; omega),
    Spec.col_flat v b ⟨t.val / 128, by omega⟩ j _ _ rfl, Scale.colHat]

theorem clip_spec : clipOf H v = Spec.codes v := by
  funext y
  have e : y = ix3 (n0 := 3) (n1 := 2048) (n2 := n) (y 0) (y 1) (y 2) := by
    funext a
    match a with
    | 0 => rfl
    | 1 => rfl
    | 2 => rfl
  rw [e]
  exact code_flat H v _ _ _ _ rfl

end Exact

end RefQ

end
-- ==== Proof.RefHost.lean ====
module

public import proofs.«01_k».proof.Proof.RefQ
public import proofs.«01_k».proof.Proof.Gen.ReferenceIdeal.Value
public import proofs.«01_k».proof.Proof.Gen.ReferenceIdeal.Frame
public import Idealize.ShloMosaic.Lib.StableHlo.RunRead

/-! # What the reference's host operations leave in the buffers its kernel reads -/

@[expose] public section

set_option maxRecDepth 16384

noncomputable section

namespace Cert.ReferenceIdeal.Own

open Cert.ReferenceIdeal Cert.ReferenceIdeal.Gen
open Idealize.ShloMosaic
open Idealize.ShloMosaic.TcCoe

theorem hx : RefQ.Facts 1920 where
  wide := bitsLt_bf16_f32
  split := shapeCasts_S3x2048x1920_S3x16x128x1920
  red := reducesTo_S3x16x128x1920_S3x16x1920_d2
  pos := h_S_
  fill := bcast_S_S3x16x1920
  one := bcast_S3x16x1920_S3x16x1x1920_0_1_3
  spread := bcast_S3x16x1x1920_S3x16x128x1920_0_1_2_3
  fillG := bcast_S_S3x16x128x1920
  join := shapeCasts_S3x16x128x1920_S3x2048x1920
  rep := bcast_S3x16x1920_S3x16x128x1920_0_1_3

theorem hdy : RefQ.Facts 14208 where
  wide := bitsLt_bf16_f32
  split := shapeCasts_S3x2048x14208_S3x16x128x14208
  red := reducesTo_S3x16x128x14208_S3x16x14208_d2
  pos := h_S_
  fill := bcast_S_S3x16x14208
  one := bcast_S3x16x14208_S3x16x1x14208_0_1_3
  spread := bcast_S3x16x1x14208_S3x16x128x14208_0_1_2_3
  fillG := bcast_S_S3x16x128x14208
  join := shapeCasts_S3x16x128x14208_S3x2048x14208
  rep := bcast_S3x16x14208_S3x16x128x14208_0_1_3

variable {F : FTy → Type} [FloatOps F]
variable (m : (ℓ : Loc nD τ sig) → Buf (Elt F) ℓ) (c : Dev nD)

/-- The first argument. -/
abbrev xArg : FVec F (RefQ.Tok 1920) .bf16 := m ((c : Thread nD τ).loc main_arg0)
/-- The second argument. -/
abbrev dyArg : FVec F (RefQ.Tok 14208) .bf16 := m ((c : Thread nD τ).loc main_arg1)

/-- The scales of the first argument. -/
theorem V_v20 : V m c main_v20 = RefQ.sclOf hx (xArg m c) := by
  unfold V
  after_reads_simp
  rfl

/-- Its clipped quotients. -/
theorem V_v28 : V m c main_v28 = RefQ.clipOf hx (xArg m c) := by
  unfold V
  after_reads_simp
  rfl

/-- Its scales, repeated. -/
theorem V_v60 : V m c main_v60 = RefQ.repOf hx (xArg m c) := by
  unfold V
  after_reads_simp
  rfl

/-- The scales of the second argument. -/
theorem V_v49 : V m c main_v49 = RefQ.sclOf hdy (dyArg m c) := by
  unfold V
  after_reads_simp
  rfl

/-- Its clipped quotients. -/
theorem V_v57 : V m c main_v57 = RefQ.clipOf hdy (dyArg m c) := by
  unfold V
  after_reads_simp
  rfl

/-- Its scales, repeated. -/
theorem V_v63 : V m c main_v63 = RefQ.repOf hdy (dyArg m c) := by
  unfold V
  after_reads_simp
  rfl

end Cert.ReferenceIdeal.Own

end
-- ==== Proof.RefOut.lean ====
module

public import proofs.«01_k».proof.Proof.RefHost
public import proofs.«01_k».proof.Proof.Mem
public import Idealize.ShloMosaic.Lib.MatmulPlain
public import Idealize.ShloMosaic.Lib.Pipeline.ValueKit

/-! # What the reference's kernel computes from its blocks -/

@[expose] public section

set_option maxRecDepth 16384

noncomputable section

namespace RefQ

open Idealize.ShloMosaic hiding ix1 ix2 ix3 ix4
open Idealize.ShloMosaic.ValueIdx
open scoped BigOperators

/-- A product that sums over the rows of both operands. -/
abbrev overRows (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem overRows_apply {K M N : ℕ} (wf : DotDims.WF ⟨2, ![K, M]⟩ ⟨2, ![K, N]⟩ ⟨2, ![M, N]⟩ [0] [0] [1] [1] [] []) {φ₁ φ₂ : FTy}
    (lhs : FVec Ideal ⟨2, ![K, M]⟩ φ₁) (rhs : FVec Ideal ⟨2, ![K, N]⟩ φ₂) (i : Fin M) (o : Fin N) :
    FloatOps.matmul (overRows K M N wf) none lhs rhs (constant ⟨2, ![M, N]⟩ .f32 0x00000000#32) (ix2 i o)
      = ∑ s : Fin K, lhs (ix2 s i) * rhs (ix2 s o) := by
  have hr : (overRows K M N wf).contr.rank = 1 := rfl
  have hs : (overRows K M N wf).contr.size ⟨0, by rw [hr]; exact Nat.one_pos⟩ = K := rfl
  rw [Ideal.matmul_constant_zero_apply, ← Equiv.sum_comp (contrEquiv1 _ K hr hs).symm]
  refine Finset.sum_congr rfl fun k _ => ?_
  have hk := contrEquiv1_symm_val _ K hr hs k
  have el : (overRows K M N wf).lhsIdx (ix2 i o) ((contrEquiv1 _ K hr hs).symm k) = ix2 k i := by
    funext a; apply Fin.ext
    match a with
    | ⟨0, _⟩ => exact hk
    | ⟨1, _⟩ => rfl
  have er : (overRows K M N wf).rhsIdx (ix2 i o) ((contrEquiv1 _ K hr hs).symm k) = ix2 k o := by
    funext a; apply Fin.ext
    match a with
    | ⟨0, _⟩ => exact hk
    | ⟨1, _⟩ => rfl
  rw [el, er]

/-- The widened codes, token by token. -/
theorem hat_line {n : ℕ} (H : Facts n) (v : FVec Ideal (Tok n) .bf16) (s : Fin 6144) (j : Fin n) :
    Spec.flat (fun y => clipOf H v y * repOf H v y) (ix2 (n0 := 6144) (n1 := n) s j) = Spec.hat (Spec.flat v) s j := by
  have hb : s.val = 2048 * (⟨s.val / 2048, by omega⟩ : Fin 3).val + (⟨s.val % 2048, Nat.mod_lt _ (by decide)⟩ : Fin 2048).val := by
    show _ = 2048 * (s.val / 2048) + s.val % 2048; omega
  rw [Spec.flat_apply _ _ _ j s hb]
  exact hat_flat H v s _ _ j hb

end RefQ

namespace Cert.ReferenceIdeal.Own

open Cert.ReferenceIdeal Cert.ReferenceIdeal.Gen
open Idealize.ShloMosaic hiding ix1 ix2 ix3 ix4
open Idealize.ShloMosaic.TcCoe
open Idealize.ShloMosaic.ValueIdx
open Idealize.SL.Sem
open Idealize.ShloMosaic.Pipeline (Dat)
open scoped BigOperators

theorem off3 : (![0, 0, 0] : Fin 3 → ℕ) = fun _ => 0 := by decide
theorem off2 : (![0, 0] : Fin 2 → ℕ) = fun _ => 0 := by decide

theorem out5_eq (x0 : Vec Ideal S3x2048x1920 .f32) (x1 : Vec Ideal S3x2048x1920 .bf16) (x2 : Vec Ideal S3x2048x14208 .f32) (x3 : Vec Ideal S3x2048x14208 .bf16) :
    out0_5 x0 x1 x2 x3 = x0 := by
  unfold out0_5
  rw [View.canon_unit_zero off3, View.ld_unit_zero off3]
  unfold k0_pay1
  rw [shapeCast_self]
  rfl

theorem out6_eq (x0 : Vec Ideal S3x2048x1920 .f32) (x1 : Vec Ideal S3x2048x1920 .bf16) (x2 : Vec Ideal S3x2048x14208 .f32) (x3 : Vec Ideal S3x2048x14208 .bf16) :
    out0_6 x0 x1 x2 x3 = x2 := by
  unfold out0_6
  rw [View.canon_unit_zero off3, View.ld_unit_zero off3]
  unfold k0_pay2
  rw [shapeCast_self]
  rfl

theorem prod_x (x0 : Vec Ideal S3x2048x1920 .f32) (x1 : Vec Ideal S3x2048x1920 .bf16) :
    mulf (extf .bf16 (k0_pay1 x0) bitsLt_fp8e4m3_bf16) (shapeCast S3x2048x1920 x1 shapeCasts_S3x2048x1920_S3x2048x1920)
      = fun y => (x0 y : EReal) * (x1 y : EReal) := by
  unfold k0_pay1
  rw [shapeCast_self, shapeCast_self]
  rfl

theorem prod_dy (x2 : Vec Ideal S3x2048x14208 .f32) (x3 : Vec Ideal S3x2048x14208 .bf16) :
    mulf (extf .bf16 (k0_pay2 x2) bitsLt_fp8e4m3_bf16) (shapeCast S3x2048x14208 x3 shapeCasts_S3x2048x14208_S3x2048x14208)
      = fun y => (x2 y : EReal) * (x3 y : EReal) := by
  unfold k0_pay2
  rw [shapeCast_self, shapeCast_self]
  rfl

theorem out4_apply (x0 : Vec Ideal S3x2048x1920 .f32) (x1 : Vec Ideal S3x2048x1920 .bf16) (x2 : Vec Ideal S3x2048x14208 .f32) (x3 : Vec Ideal S3x2048x14208 .bf16)
    (i : Fin 1920) (o : Fin 14208) :
    out0_4 x0 x1 x2 x3 (ix2 (n0 := 1920) (n1 := 14208) i o)
      = ∑ s : Fin 6144, Spec.flat (fun y => (x0 y : EReal) * (x1 y : EReal)) (ix2 (n0 := 6144) (n1 := 1920) s i)
          * Spec.flat (fun y => (x2 y : EReal) * (x3 y : EReal)) (ix2 (n0 := 6144) (n1 := 14208) s o) := by
  unfold out0_4
  rw [View.canon_unit_zero off2, View.ld_unit_zero off3, View.ld_unit_zero off3, View.ld_unit_zero off3, View.ld_unit_zero off3]
  unfold k0_pay3
  rw [prod_x, prod_dy, Spec.shapeCast_flat, Spec.shapeCast_flat]
  exact RefQ.overRows_apply dot_S6144x1920_S6144x14208_S1920x14208_0_0_1_1_n_n_wf _ _ i o

end Cert.ReferenceIdeal.Own

end
-- ==== Proof.RefI.lean ====
module

public import proofs.«01_k».proof.Proof.RefOut

/-! # The reference's results in closed form -/

@[expose] public section

set_option maxRecDepth 16384

noncomputable section

namespace Cert.ReferenceIdeal.Own

open Cert.ReferenceIdeal Cert.ReferenceIdeal.Gen
open Idealize.ShloMosaic hiding ix1 ix2 ix3 ix4
open Idealize.ShloMosaic.TcCoe
open Idealize.ShloMosaic.ValueIdx
open Idealize.SL.Sem
open Idealize.ShloMosaic.Pipeline (Dat)
open scoped BigOperators

theorem index0 : ∀ t : Fin grid0.N, win0_0.index t = ![0, 0, 0] := by decide +kernel
theorem index1 : ∀ t : Fin grid0.N, win0_1.index t = ![0, 0, 0] := by decide +kernel
theorem index2 : ∀ t : Fin grid0.N, win0_2.index t = ![0, 0, 0] := by decide +kernel
theorem index3 : ∀ t : Fin grid0.N, win0_3.index t = ![0, 0, 0] := by decide +kernel
theorem index5 : ∀ t : Fin grid0.N, win0_5.index t = ![0, 0, 0] := by decide +kernel
theorem index6 : ∀ t : Fin grid0.N, win0_6.index t = ![0, 0, 0] := by decide +kernel
theorem index4 : ∀ t : Fin grid0.N, win0_4.index t = ![0, 0] := by decide +kernel

variable (m : (ℓ : Loc nD τ sig) → Buf (Elt Ideal) ℓ) (c : Dev nD)

theorem read_0 (t : Fin cfg0.N) (W : Vec Ideal S3x2048x1920 .f32) : ((cfg0.win 0).blk t).view.read (Elt Ideal) W = W := by
  funext y
  exact congrArg W (Mem.ext3 (by blk_simp [index0]) (by blk_simp [index0]) (by blk_simp [index0]))

theorem blk_0 (t : Fin cfg0.N) : iblk m c 0 t = RefQ.clipOf hx (xArg m c) := by
  unfold iblk
  exact (read_0 t _).trans (V_v28 m c)

theorem read_1 (t : Fin cfg0.N) (W : Vec Ideal S3x2048x1920 .bf16) : ((cfg0.win 1).blk t).view.read (Elt Ideal) W = W := by
  funext y
  exact congrArg W (Mem.ext3 (by blk_simp [index1]) (by blk_simp [index1]) (by blk_simp [index1]))

theorem blk_1 (t : Fin cfg0.N) : iblk m c 1 t = RefQ.repOf hx (xArg m c) := by
  unfold iblk
  exact (read_1 t _).trans (V_v60 m c)

theorem read_2 (t : Fin cfg0.N) (W : Vec Ideal S3x2048x14208 .f32) : ((cfg0.win 2).blk t).view.read (Elt Ideal) W = W := by
  funext y
  exact congrArg W (Mem.ext3 (by blk_simp [index2]) (by blk_simp [index2]) (by blk_simp [index2]))

theorem blk_2 (t : Fin cfg0.N) : iblk m c 2 t = RefQ.clipOf hdy (dyArg m c) := by
  unfold iblk
  exact (read_2 t _).trans (V_v57 m c)

theorem read_3 (t : Fin cfg0.N) (W : Vec Ideal S3x2048x14208 .bf16) : ((cfg0.win 3).blk t).view.read (Elt Ideal) W = W := by
  funext y
  exact congrArg W (Mem.ext3 (by blk_simp [index3]) (by blk_simp [index3]) (by blk_simp [index3]))

theorem blk_3 (t : Fin cfg0.N) : iblk m c 3 t = RefQ.repOf hdy (dyArg m c) := by
  unfold iblk
  exact (read_3 t _).trans (V_v63 m c)

theorem grad_at (i : Fin 1920) (o : Fin 14208) (t : Fin cfg0.N) :
    out0_4 (iblk m c 0 t) (iblk m c 1 t) (iblk m c 2 t) (iblk m c 3 t) (ix2 (n0 := 1920) (n1 := 14208) i o)
      = Spec.dw (Spec.flat (xArg m c)) (Spec.flat (dyArg m c)) i o := by
  rw [blk_0, blk_1, blk_2, blk_3, out4_apply, Spec.dw]
  exact Finset.sum_congr rfl fun s _ => congrArg₂ (· * ·) (RefQ.hat_line hx _ s i) (RefQ.hat_line hdy _ s o)

theorem grad_spec (t : Fin cfg0.N) :
    out0_4 (iblk m c 0 t) (iblk m c 1 t) (iblk m c 2 t) (iblk m c 3 t) = Spec.grad (xArg m c) (dyArg m c) := by
  funext y
  have e : y = ix2 (n0 := 1920) (n1 := 14208) (y 0) (y 1) := Mem.ext2 rfl rfl
  rw [e]
  exact grad_at m c _ _ t

theorem arr4 : (dats m 0 c).arrAt 4 cfg0.N = Spec.grad (xArg m c) (dyArg m c) := by
  refine (dats m 0 c).arrAt_eq_of_covers 4 _ (by decide +kernel) fun t _ y => ?_
  rw [after0_4, grad_spec]
  show Spec.grad (xArg m c) (dyArg m c) (win0_4.xinj (grid0.coords t) y) = Spec.grad (xArg m c) (dyArg m c) ((win0_4.blk t).view.emb y)
  exact congrArg (Spec.grad (xArg m c) (dyArg m c)) (Mem.ext2 (by blk_simp [index4]) (by blk_simp [index4]))

theorem arr5 : (dats m 0 c).arrAt 5 cfg0.N = Spec.codes (xArg m c) := by
  refine (dats m 0 c).arrAt_eq_of_covers 5 _ (by decide +kernel) fun t _ y => ?_
  rw [after0_5, out5_eq, blk_0, RefQ.clip_spec]
  show Spec.codes (xArg m c) (win0_5.xinj (grid0.coords t) y) = Spec.codes (xArg m c) ((win0_5.blk t).view.emb y)
  exact congrArg (Spec.codes (xArg m c)) (Mem.ext3 (by blk_simp [index5]) (by blk_simp [index5]) (by blk_simp [index5]))

theorem arr6 : (dats m 0 c).arrAt 6 cfg0.N = Spec.codes (dyArg m c) := by
  refine (dats m 0 c).arrAt_eq_of_covers 6 _ (by decide +kernel) fun t _ y => ?_
  rw [after0_6, out6_eq, blk_2, RefQ.clip_spec]
  show Spec.codes (dyArg m c) (win0_6.xinj (grid0.coords t) y) = Spec.codes (dyArg m c) ((win0_6.blk t).view.emb y)
  exact congrArg (Spec.codes (dyArg m c)) (Mem.ext3 (by blk_simp [index6]) (by blk_simp [index6]) (by blk_simp [index6]))

/-- The reference's run: its five results, its arguments as launched. -/
theorem run (ρ : Dev nD → PrngReg) : θ_run defs (onTc (τ := τ) (main (F := Ideal))) ⟨m, fun _ => 0, ρ⟩ fun r => ∀ c : Dev nD,
      r.2.mem ((c : Thread nD τ).loc main_v64_0) = Spec.grad (xArg m c) (dyArg m c)
      ∧ r.2.mem ((c : Thread nD τ).loc main_v64_1) = Spec.codes (xArg m c)
      ∧ r.2.mem ((c : Thread nD τ).loc main_v20) = Spec.scales (xArg m c)
      ∧ r.2.mem ((c : Thread nD τ).loc main_v64_2) = Spec.codes (dyArg m c)
      ∧ r.2.mem ((c : Thread nD τ).loc main_v49) = Spec.scales (dyArg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post4 m r h c).trans (arr4 m c),
      (Value.post5 m r h c).trans (arr5 m c),
      ((h c).2 main_v20 (Pipeline.mem_restRefs_of main_v20 (by decide) (by decide))).trans ((V_v20 m c).trans (RefQ.scl_spec hx _)),
      (Value.post6 m r h c).trans (arr6 m c),
      ((h c).2 main_v49 (Pipeline.mem_restRefs_of main_v49 (by decide) (by decide))).trans ((V_v49 m c).trans (RefQ.scl_spec hdy _)),
      Value.kept_main_arg0 m r h c,
      Value.kept_main_arg1 m r h c⟩)
    (run_main m ρ)

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Ref
public import proofs.«01_k».proof.Proof.RunB
public import proofs.«01_k».proof.Proof.RunI
public import proofs.«01_k».proof.Proof.EndI
public import proofs.«01_k».proof.Proof.RefI
public import Idealize.ShloMosaic.Adequacy
public import Idealize.ShloMosaic.Init

@[expose] public section

noncomputable section

namespace Cert.Proof

open Idealize.ShloMosaic Idealize.SL.Sem Cert.Kernel

/-- The two programs' results are the same closed forms of the same arguments. -/
theorem algebraic : algebraic_KernelIdeal_ReferenceIdeal (hKernelIdeal := Cert.KernelIdeal.Gen.facts)
    (hReferenceIdeal := Cert.ReferenceIdeal.Gen.facts) := by
  intro m g m' g' _ hargs
  have ex : ∀ c, Cert.ReferenceIdeal.Own.xArg m' c = Cert.KernelIdeal.Own.xArg m c := fun c => (hargs c).1
  have ey : ∀ c, Cert.ReferenceIdeal.Own.dyArg m' c = Cert.KernelIdeal.Own.dyArg m c := fun c => (hargs c).2
  refine ⟨fun c => Spec.grad (Cert.KernelIdeal.Own.xArg m c) (Cert.KernelIdeal.Own.dyArg m c),
    fun c => Spec.codes (Cert.KernelIdeal.Own.xArg m c), fun c => Spec.scales (Cert.KernelIdeal.Own.xArg m c),
    fun c => Spec.codes (Cert.KernelIdeal.Own.dyArg m c), fun c => Spec.scales (Cert.KernelIdeal.Own.dyArg m c),
    Cert.KernelIdeal.Own.run m g, (θ_run _ _ _).mono (fun _ h c => ?_) (Cert.ReferenceIdeal.Own.run m' g')⟩
  have h := h c
  rw [ex, ey] at h
  exact h

theorem claim : Cert.Claim :=
  ⟨Cert.Kernel.Gen.facts, Cert.KernelIdeal.Gen.facts, Cert.ReferenceIdeal.Gen.facts, fun m g _ => Cert.Kernel.Own.frame m g,
    fun m g _ => Cert.KernelIdeal.Own.frame m g, fun m g _ => Cert.ReferenceIdeal.Gen.frame m g, trivial, algebraic⟩

end Cert.Proof

end
